-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixNat (m : (ℓ : Loc Cert.MixNat.nD Cert.MixNat.τ Cert.MixNat.sig) → Buf (Elt Bits) ℓ) : Prop :=
  True

def Pre_MixNatIdeal (m : (ℓ : Loc Cert.MixNatIdeal.nD Cert.MixNatIdeal.τ Cert.MixNatIdeal.sig) → Buf (Elt Ideal) ℓ) : Prop :=
  True

def Pre_MixNatRefIdeal (m : (ℓ : Loc Cert.MixNatRefIdeal.nD Cert.MixNatRefIdeal.τ Cert.MixNatRefIdeal.sig) → Buf (Elt Ideal) ℓ) : Prop :=
  True

def Pre_ResidLast (m : (ℓ : Loc Cert.ResidLast.nD Cert.ResidLast.τ Cert.ResidLast.sig) → Buf (Elt Bits) ℓ) : Prop :=
  True

def Pre_ResidLastIdeal (m : (ℓ : Loc Cert.ResidLastIdeal.nD Cert.ResidLastIdeal.τ Cert.ResidLastIdeal.sig) → Buf (Elt Ideal) ℓ) : Prop :=
  True

def Pre_ResidLastRefIdeal (m : (ℓ : Loc Cert.ResidLastRefIdeal.nD Cert.ResidLastRefIdeal.τ Cert.ResidLastRefIdeal.sig) → Buf (Elt Ideal) ℓ) : Prop :=
  True

def Pre_MixDil1 (m : (ℓ : Loc Cert.MixDil1.nD Cert.MixDil1.τ Cert.MixDil1.sig) → Buf (Elt Bits) ℓ) : Prop :=
  True

def Pre_MixDil1Ideal (m : (ℓ : Loc Cert.MixDil1Ideal.nD Cert.MixDil1Ideal.τ Cert.MixDil1Ideal.sig) → Buf (Elt Ideal) ℓ) : Prop :=
  True

def Pre_MixDil1RefIdeal (m : (ℓ : Loc Cert.MixDil1RefIdeal.nD Cert.MixDil1RefIdeal.τ Cert.MixDil1RefIdeal.sig) → Buf (Elt Ideal) ℓ) : Prop :=
  True

def Pre_MixQk (m : (ℓ : Loc Cert.MixQk.nD Cert.MixQk.τ Cert.MixQk.sig) → Buf (Elt Bits) ℓ) : Prop :=
  True

def Pre_MixQkIdeal (m : (ℓ : Loc Cert.MixQkIdeal.nD Cert.MixQkIdeal.τ Cert.MixQkIdeal.sig) → Buf (Elt Ideal) ℓ) : Prop :=
  True

def Pre_MixQkRefIdeal (m : (ℓ : Loc Cert.MixQkRefIdeal.nD Cert.MixQkRefIdeal.τ Cert.MixQkRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixNat [hMixNat : Cert.MixNat.Facts] : Prop :=
  ∀ (m : (ℓ : Loc Cert.MixNat.nD Cert.MixNat.τ Cert.MixNat.sig) → Buf (Elt Bits) ℓ) (g : Dev Cert.MixNat.nD → PrngReg), Pre_MixNat m →
    θ_run (Cert.MixNat.defs (F := Bits)) (onTc (τ := Cert.MixNat.τ) (Cert.MixNat.main (F := Bits))) ⟨m, fun _ => 0, g⟩ (fun r => (∀ c : Dev Cert.MixNat.nD,
      r.2.mem ((c.tc : Thread Cert.MixNat.nD Cert.MixNat.τ).loc Cert.MixNat.main_arg0) = m ((c.tc : Thread Cert.MixNat.nD Cert.MixNat.τ).loc Cert.MixNat.main_arg0)
      ∧ r.2.mem ((c.tc : Thread Cert.MixNat.nD Cert.MixNat.τ).loc Cert.MixNat.main_arg1) = m ((c.tc : Thread Cert.MixNat.nD Cert.MixNat.τ).loc Cert.MixNat.main_arg1))
      ∧ r.2.sem = fun _ => 0)

def quiescent_MixNatIdeal [hMixNatIdeal : Cert.MixNatIdeal.Facts] : Prop :=
  ∀ (m : (ℓ : Loc Cert.MixNatIdeal.nD Cert.MixNatIdeal.τ Cert.MixNatIdeal.sig) → Buf (Elt Ideal) ℓ) (g : Dev Cert.MixNatIdeal.nD → PrngReg), Pre_MixNatIdeal m →
    θ_run (Cert.MixNatIdeal.defs (F := Ideal)) (onTc (τ := Cert.MixNatIdeal.τ) (Cert.MixNatIdeal.main (F := Ideal))) ⟨m, fun _ => 0, g⟩ (fun r => (∀ c : Dev Cert.MixNatIdeal.nD,
      r.2.mem ((c.tc : Thread Cert.MixNatIdeal.nD Cert.MixNatIdeal.τ).loc Cert.MixNatIdeal.main_arg0) = m ((c.tc : Thread Cert.MixNatIdeal.nD Cert.MixNatIdeal.τ).loc Cert.MixNatIdeal.main_arg0)
      ∧ r.2.mem ((c.tc : Thread Cert.MixNatIdeal.nD Cert.MixNatIdeal.τ).loc Cert.MixNatIdeal.main_arg1) = m ((c.tc : Thread Cert.MixNatIdeal.nD Cert.MixNatIdeal.τ).loc Cert.MixNatIdeal.main_arg1))
      ∧ r.2.sem = fun _ => 0)

def quiescent_MixNatRefIdeal [hMixNatRefIdeal : Cert.MixNatRefIdeal.Facts] : Prop :=
  ∀ (m : (ℓ : Loc Cert.MixNatRefIdeal.nD Cert.MixNatRefIdeal.τ Cert.MixNatRefIdeal.sig) → Buf (Elt Ideal) ℓ) (g : Dev Cert.MixNatRefIdeal.nD → PrngReg), Pre_MixNatRefIdeal m →
    θ_run (Cert.MixNatRefIdeal.defs (F := Ideal)) (onTc (τ := Cert.MixNatRefIdeal.τ) (Cert.MixNatRefIdeal.main (F := Ideal))) ⟨m, fun _ => 0, g⟩ (fun r => (∀ c : Dev Cert.MixNatRefIdeal.nD,
      r.2.mem ((c.tc : Thread Cert.MixNatRefIdeal.nD Cert.MixNatRefIdeal.τ).loc Cert.MixNatRefIdeal.main_arg0) = m ((c.tc : Thread Cert.MixNatRefIdeal.nD Cert.MixNatRefIdeal.τ).loc Cert.MixNatRefIdeal.main_arg0)
      ∧ r.2.mem ((c.tc : Thread Cert.MixNatRefIdeal.nD Cert.MixNatRefIdeal.τ).loc Cert.MixNatRefIdeal.main_arg1) = m ((c.tc : Thread Cert.MixNatRefIdeal.nD Cert.MixNatRefIdeal.τ).loc Cert.MixNatRefIdeal.main_arg1))
      ∧ r.2.sem = fun _ => 0)

def quiescent_ResidLast [hResidLast : Cert.ResidLast.Facts] : Prop :=
  ∀ (m : (ℓ : Loc Cert.ResidLast.nD Cert.ResidLast.τ Cert.ResidLast.sig) → Buf (Elt Bits) ℓ) (g : Dev Cert.ResidLast.nD → PrngReg), Pre_ResidLast m →
    θ_run (Cert.ResidLast.defs (F := Bits)) (onTc (τ := Cert.ResidLast.τ) (Cert.ResidLast.main (F := Bits))) ⟨m, fun _ => 0, g⟩ (fun r => (∀ c : Dev Cert.ResidLast.nD,
      r.2.mem ((c.tc : Thread Cert.ResidLast.nD Cert.ResidLast.τ).loc Cert.ResidLast.main_arg0) = m ((c.tc : Thread Cert.ResidLast.nD Cert.ResidLast.τ).loc Cert.ResidLast.main_arg0)
      ∧ r.2.mem ((c.tc : Thread Cert.ResidLast.nD Cert.ResidLast.τ).loc Cert.ResidLast.main_arg1) = m ((c.tc : Thread Cert.ResidLast.nD Cert.ResidLast.τ).loc Cert.ResidLast.main_arg1)
      ∧ r.2.mem ((c.tc : Thread Cert.ResidLast.nD Cert.ResidLast.τ).loc Cert.ResidLast.main_arg2) = m ((c.tc : Thread Cert.ResidLast.nD Cert.ResidLast.τ).loc Cert.ResidLast.main_arg2))
      ∧ r.2.sem = fun _ => 0)

def quiescent_ResidLastIdeal [hResidLastIdeal : Cert.ResidLastIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg), Pre_ResidLastIdeal m →
    θ_run (Cert.ResidLastIdeal.defs (F := Ideal)) (onTc (τ := Cert.ResidLastIdeal.τ) (Cert.ResidLastIdeal.main (F := Ideal))) ⟨m, fun _ => 0, g⟩ (fun r => (∀ c : Dev Cert.ResidLastIdeal.nD,
      r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
      ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
      ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2))
      ∧ r.2.sem = fun _ => 0)

def quiescent_ResidLastRefIdeal [hResidLastRefIdeal : Cert.ResidLastRefIdeal.Facts] : Prop :=
  ∀ (m : (ℓ : Loc Cert.ResidLastRefIdeal.nD Cert.ResidLastRefIdeal.τ Cert.ResidLastRefIdeal.sig) → Buf (Elt Ideal) ℓ) (g : Dev Cert.ResidLastRefIdeal.nD → PrngReg), Pre_ResidLastRefIdeal m →
    θ_run (Cert.ResidLastRefIdeal.defs (F := Ideal)) (onTc (τ := Cert.ResidLastRefIdeal.τ) (Cert.ResidLastRefIdeal.main (F := Ideal))) ⟨m, fun _ => 0, g⟩ (fun r => (∀ c : Dev Cert.ResidLastRefIdeal.nD,
      r.2.mem ((c.tc : Thread Cert.ResidLastRefIdeal.nD Cert.ResidLastRefIdeal.τ).loc Cert.ResidLastRefIdeal.main_arg0) = m ((c.tc : Thread Cert.ResidLastRefIdeal.nD Cert.ResidLastRefIdeal.τ).loc Cert.ResidLastRefIdeal.main_arg0)
      ∧ r.2.mem ((c.tc : Thread Cert.ResidLastRefIdeal.nD Cert.ResidLastRefIdeal.τ).loc Cert.ResidLastRefIdeal.main_arg1) = m ((c.tc : Thread Cert.ResidLastRefIdeal.nD Cert.ResidLastRefIdeal.τ).loc Cert.ResidLastRefIdeal.main_arg1)
      ∧ r.2.mem ((c.tc : Thread Cert.ResidLastRefIdeal.nD Cert.ResidLastRefIdeal.τ).loc Cert.ResidLastRefIdeal.main_arg2) = m ((c.tc : Thread Cert.ResidLastRefIdeal.nD Cert.ResidLastRefIdeal.τ).loc Cert.ResidLastRefIdeal.main_arg2))
      ∧ r.2.sem = fun _ => 0)

def quiescent_MixDil1 [hMixDil1 : Cert.MixDil1.Facts] : Prop :=
  ∀ (m : (ℓ : Loc Cert.MixDil1.nD Cert.MixDil1.τ Cert.MixDil1.sig) → Buf (Elt Bits) ℓ) (g : Dev Cert.MixDil1.nD → PrngReg), Pre_MixDil1 m →
    θ_run (Cert.MixDil1.defs (F := Bits)) (onTc (τ := Cert.MixDil1.τ) (Cert.MixDil1.main (F := Bits))) ⟨m, fun _ => 0, g⟩ (fun r => (∀ c : Dev Cert.MixDil1.nD,
      r.2.mem ((c.tc : Thread Cert.MixDil1.nD Cert.MixDil1.τ).loc Cert.MixDil1.main_arg0) = m ((c.tc : Thread Cert.MixDil1.nD Cert.MixDil1.τ).loc Cert.MixDil1.main_arg0)
      ∧ r.2.mem ((c.tc : Thread Cert.MixDil1.nD Cert.MixDil1.τ).loc Cert.MixDil1.main_arg1) = m ((c.tc : Thread Cert.MixDil1.nD Cert.MixDil1.τ).loc Cert.MixDil1.main_arg1))
      ∧ r.2.sem = fun _ => 0)

def quiescent_MixDil1Ideal [hMixDil1Ideal : Cert.MixDil1Ideal.Facts] : Prop :=
  ∀ (m : (ℓ : Loc Cert.MixDil1Ideal.nD Cert.MixDil1Ideal.τ Cert.MixDil1Ideal.sig) → Buf (Elt Ideal) ℓ) (g : Dev Cert.MixDil1Ideal.nD → PrngReg), Pre_MixDil1Ideal m →
    θ_run (Cert.MixDil1Ideal.defs (F := Ideal)) (onTc (τ := Cert.MixDil1Ideal.τ) (Cert.MixDil1Ideal.main (F := Ideal))) ⟨m, fun _ => 0, g⟩ (fun r => (∀ c : Dev Cert.MixDil1Ideal.nD,
      r.2.mem ((c.tc : Thread Cert.MixDil1Ideal.nD Cert.MixDil1Ideal.τ).loc Cert.MixDil1Ideal.main_arg0) = m ((c.tc : Thread Cert.MixDil1Ideal.nD Cert.MixDil1Ideal.τ).loc Cert.MixDil1Ideal.main_arg0)
      ∧ r.2.mem ((c.tc : Thread Cert.MixDil1Ideal.nD Cert.MixDil1Ideal.τ).loc Cert.MixDil1Ideal.main_arg1) = m ((c.tc : Thread Cert.MixDil1Ideal.nD Cert.MixDil1Ideal.τ).loc Cert.MixDil1Ideal.main_arg1))
      ∧ r.2.sem = fun _ => 0)

def quiescent_MixDil1RefIdeal [hMixDil1RefIdeal : Cert.MixDil1RefIdeal.Facts] : Prop :=
  ∀ (m : (ℓ : Loc Cert.MixDil1RefIdeal.nD Cert.MixDil1RefIdeal.τ Cert.MixDil1RefIdeal.sig) → Buf (Elt Ideal) ℓ) (g : Dev Cert.MixDil1RefIdeal.nD → PrngReg), Pre_MixDil1RefIdeal m →
    θ_run (Cert.MixDil1RefIdeal.defs (F := Ideal)) (onTc (τ := Cert.MixDil1RefIdeal.τ) (Cert.MixDil1RefIdeal.main (F := Ideal))) ⟨m, fun _ => 0, g⟩ (fun r => (∀ c : Dev Cert.MixDil1RefIdeal.nD,
      r.2.mem ((c.tc : Thread Cert.MixDil1RefIdeal.nD Cert.MixDil1RefIdeal.τ).loc Cert.MixDil1RefIdeal.main_arg0) = m ((c.tc : Thread Cert.MixDil1RefIdeal.nD Cert.MixDil1RefIdeal.τ).loc Cert.MixDil1RefIdeal.main_arg0)
      ∧ r.2.mem ((c.tc : Thread Cert.MixDil1RefIdeal.nD Cert.MixDil1RefIdeal.τ).loc Cert.MixDil1RefIdeal.main_arg1) = m ((c.tc : Thread Cert.MixDil1RefIdeal.nD Cert.MixDil1RefIdeal.τ).loc Cert.MixDil1RefIdeal.main_arg1))
      ∧ r.2.sem = fun _ => 0)

def quiescent_MixQk [hMixQk : Cert.MixQk.Facts] : Prop :=
  ∀ (m : (ℓ : Loc Cert.MixQk.nD Cert.MixQk.τ Cert.MixQk.sig) → Buf (Elt Bits) ℓ) (g : Dev Cert.MixQk.nD → PrngReg), Pre_MixQk m →
    θ_run (Cert.MixQk.defs (F := Bits)) (onTc (τ := Cert.MixQk.τ) (Cert.MixQk.main (F := Bits))) ⟨m, fun _ => 0, g⟩ (fun r => (∀ c : Dev Cert.MixQk.nD,
      r.2.mem ((c.tc : Thread Cert.MixQk.nD Cert.MixQk.τ).loc Cert.MixQk.main_arg0) = m ((c.tc : Thread Cert.MixQk.nD Cert.MixQk.τ).loc Cert.MixQk.main_arg0)
      ∧ r.2.mem ((c.tc : Thread Cert.MixQk.nD Cert.MixQk.τ).loc Cert.MixQk.main_arg1) = m ((c.tc : Thread Cert.MixQk.nD Cert.MixQk.τ).loc Cert.MixQk.main_arg1)
      ∧ r.2.mem ((c.tc : Thread Cert.MixQk.nD Cert.MixQk.τ).loc Cert.MixQk.main_arg2) = m ((c.tc : Thread Cert.MixQk.nD Cert.MixQk.τ).loc Cert.MixQk.main_arg2)
      ∧ r.2.mem ((c.tc : Thread Cert.MixQk.nD Cert.MixQk.τ).loc Cert.MixQk.main_arg3) = m ((c.tc : Thread Cert.MixQk.nD Cert.MixQk.τ).loc Cert.MixQk.main_arg3)
      ∧ r.2.mem ((c.tc : Thread Cert.MixQk.nD Cert.MixQk.τ).loc Cert.MixQk.main_arg4) = m ((c.tc : Thread Cert.MixQk.nD Cert.MixQk.τ).loc Cert.MixQk.main_arg4)
      ∧ r.2.mem ((c.tc : Thread Cert.MixQk.nD Cert.MixQk.τ).loc Cert.MixQk.main_arg5) = m ((c.tc : Thread Cert.MixQk.nD Cert.MixQk.τ).loc Cert.MixQk.main_arg5))
      ∧ r.2.sem = fun _ => 0)

def quiescent_MixQkIdeal [hMixQkIdeal : Cert.MixQkIdeal.Facts] : Prop :=
  ∀ (m : (ℓ : Loc Cert.MixQkIdeal.nD Cert.MixQkIdeal.τ Cert.MixQkIdeal.sig) → Buf (Elt Ideal) ℓ) (g : Dev Cert.MixQkIdeal.nD → PrngReg), Pre_MixQkIdeal m →
    θ_run (Cert.MixQkIdeal.defs (F := Ideal)) (onTc (τ := Cert.MixQkIdeal.τ) (Cert.MixQkIdeal.main (F := Ideal))) ⟨m, fun _ => 0, g⟩ (fun r => (∀ c : Dev Cert.MixQkIdeal.nD,
      r.2.mem ((c.tc : Thread Cert.MixQkIdeal.nD Cert.MixQkIdeal.τ).loc Cert.MixQkIdeal.main_arg0) = m ((c.tc : Thread Cert.MixQkIdeal.nD Cert.MixQkIdeal.τ).loc Cert.MixQkIdeal.main_arg0)
      ∧ r.2.mem ((c.tc : Thread Cert.MixQkIdeal.nD Cert.MixQkIdeal.τ).loc Cert.MixQkIdeal.main_arg1) = m ((c.tc : Thread Cert.MixQkIdeal.nD Cert.MixQkIdeal.τ).loc Cert.MixQkIdeal.main_arg1)
      ∧ r.2.mem ((c.tc : Thread Cert.MixQkIdeal.nD Cert.MixQkIdeal.τ).loc Cert.MixQkIdeal.main_arg2) = m ((c.tc : Thread Cert.MixQkIdeal.nD Cert.MixQkIdeal.τ).loc Cert.MixQkIdeal.main_arg2)
      ∧ r.2.mem ((c.tc : Thread Cert.MixQkIdeal.nD Cert.MixQkIdeal.τ).loc Cert.MixQkIdeal.main_arg3) = m ((c.tc : Thread Cert.MixQkIdeal.nD Cert.MixQkIdeal.τ).loc Cert.MixQkIdeal.main_arg3)
      ∧ r.2.mem ((c.tc : Thread Cert.MixQkIdeal.nD Cert.MixQkIdeal.τ).loc Cert.MixQkIdeal.main_arg4) = m ((c.tc : Thread Cert.MixQkIdeal.nD Cert.MixQkIdeal.τ).loc Cert.MixQkIdeal.main_arg4)
      ∧ r.2.mem ((c.tc : Thread Cert.MixQkIdeal.nD Cert.MixQkIdeal.τ).loc Cert.MixQkIdeal.main_arg5) = m ((c.tc : Thread Cert.MixQkIdeal.nD Cert.MixQkIdeal.τ).loc Cert.MixQkIdeal.main_arg5))
      ∧ r.2.sem = fun _ => 0)

def quiescent_MixQkRefIdeal [hMixQkRefIdeal : Cert.MixQkRefIdeal.Facts] : Prop :=
  ∀ (m : (ℓ : Loc Cert.MixQkRefIdeal.nD Cert.MixQkRefIdeal.τ Cert.MixQkRefIdeal.sig) → Buf (Elt Ideal) ℓ) (g : Dev Cert.MixQkRefIdeal.nD → PrngReg), Pre_MixQkRefIdeal m →
    θ_run (Cert.MixQkRefIdeal.defs (F := Ideal)) (onTc (τ := Cert.MixQkRefIdeal.τ) (Cert.MixQkRefIdeal.main (F := Ideal))) ⟨m, fun _ => 0, g⟩ (fun r => (∀ c : Dev Cert.MixQkRefIdeal.nD,
      r.2.mem ((c.tc : Thread Cert.MixQkRefIdeal.nD Cert.MixQkRefIdeal.τ).loc Cert.MixQkRefIdeal.main_arg0) = m ((c.tc : Thread Cert.MixQkRefIdeal.nD Cert.MixQkRefIdeal.τ).loc Cert.MixQkRefIdeal.main_arg0)
      ∧ r.2.mem ((c.tc : Thread Cert.MixQkRefIdeal.nD Cert.MixQkRefIdeal.τ).loc Cert.MixQkRefIdeal.main_arg1) = m ((c.tc : Thread Cert.MixQkRefIdeal.nD Cert.MixQkRefIdeal.τ).loc Cert.MixQkRefIdeal.main_arg1)
      ∧ r.2.mem ((c.tc : Thread Cert.MixQkRefIdeal.nD Cert.MixQkRefIdeal.τ).loc Cert.MixQkRefIdeal.main_arg2) = m ((c.tc : Thread Cert.MixQkRefIdeal.nD Cert.MixQkRefIdeal.τ).loc Cert.MixQkRefIdeal.main_arg2)
      ∧ r.2.mem ((c.tc : Thread Cert.MixQkRefIdeal.nD Cert.MixQkRefIdeal.τ).loc Cert.MixQkRefIdeal.main_arg3) = m ((c.tc : Thread Cert.MixQkRefIdeal.nD Cert.MixQkRefIdeal.τ).loc Cert.MixQkRefIdeal.main_arg3)
      ∧ r.2.mem ((c.tc : Thread Cert.MixQkRefIdeal.nD Cert.MixQkRefIdeal.τ).loc Cert.MixQkRefIdeal.main_arg4) = m ((c.tc : Thread Cert.MixQkRefIdeal.nD Cert.MixQkRefIdeal.τ).loc Cert.MixQkRefIdeal.main_arg4)
      ∧ r.2.mem ((c.tc : Thread Cert.MixQkRefIdeal.nD Cert.MixQkRefIdeal.τ).loc Cert.MixQkRefIdeal.main_arg5) = m ((c.tc : Thread Cert.MixQkRefIdeal.nD Cert.MixQkRefIdeal.τ).loc Cert.MixQkRefIdeal.main_arg5))
      ∧ r.2.sem = fun _ => 0)

def preserves_Attn_AttnIdeal : Prop :=
  True

def algebraic_AttnIdeal_AttnRefIdeal_on_prompt_rows_pre_finite_qk [hAttnIdeal : Cert.AttnIdeal.Facts] [hAttnRefIdeal : Cert.AttnRefIdeal.Facts] [hPre_finite_qk : Cert.Pre_finite_qk.Facts] [hOn_prompt_rows : Cert.On_prompt_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![16384, 1536]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnIdeal.nD Cert.AttnIdeal.τ).loc Cert.AttnIdeal.main_v10) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![16384, 1536]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnRefIdeal.nD Cert.AttnRefIdeal.τ).loc Cert.AttnRefIdeal.main_v51) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v8) = v0 c
          ∧ r.2.mem ((c.tc : Thread Cert.SwigluRefIdeal.nD Cert.SwigluRefIdeal.τ).loc Cert.SwigluRefIdeal.main_v11) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v1_0)) (v1 : (c : Dev Cert.FfnOutIdeal.nD) → Buf (Elt Ideal) ((c.tc : Thread Cert.FfnOutIdeal.nD Cert.FfnOutIdeal.τ).loc Cert.FfnOutIdeal.main_v1_1)) (v2 : (c : Dev Cert.FfnOutIdeal.nD) → Buf (Elt Ideal) ((c.tc : Thread Cert.FfnOutIdeal.nD Cert.FfnOutIdeal.τ).loc Cert.FfnOutIdeal.main_v1_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1_0) = v0 c
          ∧ r.2.mem ((c.tc : Thread Cert.FfnOutIdeal.nD Cert.FfnOutIdeal.τ).loc Cert.FfnOutIdeal.main_v1_1) = v1 c
          ∧ r.2.mem ((c.tc : Thread Cert.FfnOutIdeal.nD Cert.FfnOutIdeal.τ).loc Cert.FfnOutIdeal.main_v1_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v6) = v1 c
          ∧ r.2.mem ((c.tc : Thread Cert.FfnOutRefIdeal.nD Cert.FfnOutRefIdeal.τ).loc Cert.FfnOutRefIdeal.main_v9) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixNat_MixNatIdeal : Prop :=
  True

def algebraic_MixNatIdeal_MixNatRefIdeal [hMixNatIdeal : Cert.MixNatIdeal.Facts] [hMixNatRefIdeal : Cert.MixNatRefIdeal.Facts] : Prop :=
  ∀ (m : (ℓ : Loc Cert.MixNatIdeal.nD Cert.MixNatIdeal.τ Cert.MixNatIdeal.sig) → Buf (Elt Ideal) ℓ) (g : Dev Cert.MixNatIdeal.nD → PrngReg)
    (m' : (ℓ : Loc Cert.MixNatRefIdeal.nD Cert.MixNatRefIdeal.τ Cert.MixNatRefIdeal.sig) → Buf (Elt Ideal) ℓ) (g' : Dev Cert.MixNatRefIdeal.nD → PrngReg), Pre_MixNatIdeal m →
    (∀ c : Dev Cert.MixNatIdeal.nD,
      m' ((c.tc : Thread Cert.MixNatRefIdeal.nD Cert.MixNatRefIdeal.τ).loc Cert.MixNatRefIdeal.main_arg0) = m ((c.tc : Thread Cert.MixNatIdeal.nD Cert.MixNatIdeal.τ).loc Cert.MixNatIdeal.main_arg0)
      ∧ m' ((c.tc : Thread Cert.MixNatRefIdeal.nD Cert.MixNatRefIdeal.τ).loc Cert.MixNatRefIdeal.main_arg1) = m ((c.tc : Thread Cert.MixNatIdeal.nD Cert.MixNatIdeal.τ).loc Cert.MixNatIdeal.main_arg1)) →
    ∃ (v0 : (c : Dev Cert.MixNatIdeal.nD) → Buf (Elt Ideal) ((c.tc : Thread Cert.MixNatIdeal.nD Cert.MixNatIdeal.τ).loc Cert.MixNatIdeal.main_v1)),
      θ_run (Cert.MixNatIdeal.defs (F := Ideal)) (onTc (τ := Cert.MixNatIdeal.τ) (Cert.MixNatIdeal.main (F := Ideal))) ⟨m, fun _ => 0, g⟩ (fun r => ∀ c : Dev Cert.MixNatIdeal.nD,
          r.2.mem ((c.tc : Thread Cert.MixNatIdeal.nD Cert.MixNatIdeal.τ).loc Cert.MixNatIdeal.main_v1) = v0 c
          ∧ r.2.mem ((c.tc : Thread Cert.MixNatIdeal.nD Cert.MixNatIdeal.τ).loc Cert.MixNatIdeal.main_arg0) = m ((c.tc : Thread Cert.MixNatIdeal.nD Cert.MixNatIdeal.τ).loc Cert.MixNatIdeal.main_arg0)
          ∧ r.2.mem ((c.tc : Thread Cert.MixNatIdeal.nD Cert.MixNatIdeal.τ).loc Cert.MixNatIdeal.main_arg1) = m ((c.tc : Thread Cert.MixNatIdeal.nD Cert.MixNatIdeal.τ).loc Cert.MixNatIdeal.main_arg1))
      ∧ θ_run (Cert.MixNatRefIdeal.defs (F := Ideal)) (onTc (τ := Cert.MixNatRefIdeal.τ) (Cert.MixNatRefIdeal.main (F := Ideal))) ⟨m', fun _ => 0, g'⟩ (fun r => ∀ c : Dev Cert.MixNatRefIdeal.nD,
          r.2.mem ((c.tc : Thread Cert.MixNatRefIdeal.nD Cert.MixNatRefIdeal.τ).loc Cert.MixNatRefIdeal.main_v14) = v0 c
          ∧ r.2.mem ((c.tc : Thread Cert.MixNatRefIdeal.nD Cert.MixNatRefIdeal.τ).loc Cert.MixNatRefIdeal.main_arg0) = m' ((c.tc : Thread Cert.MixNatRefIdeal.nD Cert.MixNatRefIdeal.τ).loc Cert.MixNatRefIdeal.main_arg0)
          ∧ r.2.mem ((c.tc : Thread Cert.MixNatRefIdeal.nD Cert.MixNatRefIdeal.τ).loc Cert.MixNatRefIdeal.main_arg1) = m' ((c.tc : Thread Cert.MixNatRefIdeal.nD Cert.MixNatRefIdeal.τ).loc Cert.MixNatRefIdeal.main_arg1))

def preserves_ResidLast_ResidLastIdeal : Prop :=
  True

def algebraic_ResidLastIdeal_ResidLastRefIdeal [hResidLastIdeal : Cert.ResidLastIdeal.Facts] [hResidLastRefIdeal : Cert.ResidLastRefIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg)
    (m' : (ℓ : Loc Cert.ResidLastRefIdeal.nD Cert.ResidLastRefIdeal.τ Cert.ResidLastRefIdeal.sig) → Buf (Elt Ideal) ℓ) (g' : Dev Cert.ResidLastRefIdeal.nD → PrngReg), Pre_ResidLastIdeal m →
    (∀ c : Dev Cert.ResidLastIdeal.nD,
      m' ((c.tc : Thread Cert.ResidLastRefIdeal.nD Cert.ResidLastRefIdeal.τ).loc Cert.ResidLastRefIdeal.main_arg0) = m ((c.tc : Thread Cert.ResidLastIdeal.nD Cert.ResidLastIdeal.τ).loc Cert.ResidLastIdeal.main_arg0)
      ∧ m' ((c.tc : Thread Cert.ResidLastRefIdeal.nD Cert.ResidLastRefIdeal.τ).loc Cert.ResidLastRefIdeal.main_arg1) = m ((c.tc : Thread Cert.ResidLastIdeal.nD Cert.ResidLastIdeal.τ).loc Cert.ResidLastIdeal.main_arg1)
      ∧ m' ((c.tc : Thread Cert.ResidLastRefIdeal.nD Cert.ResidLastRefIdeal.τ).loc Cert.ResidLastRefIdeal.main_arg2) = m ((c.tc : Thread Cert.ResidLastIdeal.nD Cert.ResidLastIdeal.τ).loc Cert.ResidLastIdeal.main_arg2)) →
    ∃ (v0 : (c : Dev Cert.ResidLastIdeal.nD) → Buf (Elt Ideal) ((c.tc : Thread Cert.ResidLastIdeal.nD Cert.ResidLastIdeal.τ).loc Cert.ResidLastIdeal.main_v1_0)) (v1 : (c : Dev Cert.ResidLastIdeal.nD) → Buf (Elt Ideal) ((c.tc : Thread Cert.ResidLastIdeal.nD Cert.ResidLastIdeal.τ).loc Cert.ResidLastIdeal.main_v1_1)),
      θ_run (Cert.ResidLastIdeal.defs (F := Ideal)) (onTc (τ := Cert.ResidLastIdeal.τ) (Cert.ResidLastIdeal.main (F := Ideal))) ⟨m, fun _ => 0, g⟩ (fun r => ∀ c : Dev Cert.ResidLastIdeal.nD,
          r.2.mem ((c.tc : Thread Cert.ResidLastIdeal.nD Cert.ResidLastIdeal.τ).loc Cert.ResidLastIdeal.main_v1_0) = v0 c
          ∧ r.2.mem ((c.tc : Thread Cert.ResidLastIdeal.nD Cert.ResidLastIdeal.τ).loc Cert.ResidLastIdeal.main_v1_1) = v1 c
          ∧ r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
          ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
          ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2))
      ∧ θ_run (Cert.ResidLastRefIdeal.defs (F := Ideal)) (onTc (τ := Cert.ResidLastRefIdeal.τ) (Cert.ResidLastRefIdeal.main (F := Ideal))) ⟨m', fun _ => 0, g'⟩ (fun r => ∀ c : Dev Cert.ResidLastRefIdeal.nD,
          r.2.mem ((c.tc : Thread Cert.ResidLastRefIdeal.nD Cert.ResidLastRefIdeal.τ).loc Cert.ResidLastRefIdeal.main_v19) = v0 c
          ∧ r.2.mem ((c.tc : Thread Cert.ResidLastRefIdeal.nD Cert.ResidLastRefIdeal.τ).loc Cert.ResidLastRefIdeal.main_v20) = v1 c
          ∧ r.2.mem ((c.tc : Thread Cert.ResidLastRefIdeal.nD Cert.ResidLastRefIdeal.τ).loc Cert.ResidLastRefIdeal.main_arg0) = m' ((c.tc : Thread Cert.ResidLastRefIdeal.nD Cert.ResidLastRefIdeal.τ).loc Cert.ResidLastRefIdeal.main_arg0)
          ∧ r.2.mem ((c.tc : Thread Cert.ResidLastRefIdeal.nD Cert.ResidLastRefIdeal.τ).loc Cert.ResidLastRefIdeal.main_arg1) = m' ((c.tc : Thread Cert.ResidLastRefIdeal.nD Cert.ResidLastRefIdeal.τ).loc Cert.ResidLastRefIdeal.main_arg1)
          ∧ r.2.mem ((c.tc : Thread Cert.ResidLastRefIdeal.nD Cert.ResidLastRefIdeal.τ).loc Cert.ResidLastRefIdeal.main_arg2) = m' ((c.tc : Thread Cert.ResidLastRefIdeal.nD Cert.ResidLastRefIdeal.τ).loc Cert.ResidLastRefIdeal.main_arg2))

def preserves_MixDil1_MixDil1Ideal : Prop :=
  True

def algebraic_MixDil1Ideal_MixDil1RefIdeal [hMixDil1Ideal : Cert.MixDil1Ideal.Facts] [hMixDil1RefIdeal : Cert.MixDil1RefIdeal.Facts] : Prop :=
  ∀ (m : (ℓ : Loc Cert.MixDil1Ideal.nD Cert.MixDil1Ideal.τ Cert.MixDil1Ideal.sig) → Buf (Elt Ideal) ℓ) (g : Dev Cert.MixDil1Ideal.nD → PrngReg)
    (m' : (ℓ : Loc Cert.MixDil1RefIdeal.nD Cert.MixDil1RefIdeal.τ Cert.MixDil1RefIdeal.sig) → Buf (Elt Ideal) ℓ) (g' : Dev Cert.MixDil1RefIdeal.nD → PrngReg), Pre_MixDil1Ideal m →
    (∀ c : Dev Cert.MixDil1Ideal.nD,
      m' ((c.tc : Thread Cert.MixDil1RefIdeal.nD Cert.MixDil1RefIdeal.τ).loc Cert.MixDil1RefIdeal.main_arg0) = m ((c.tc : Thread Cert.MixDil1Ideal.nD Cert.MixDil1Ideal.τ).loc Cert.MixDil1Ideal.main_arg0)
      ∧ m' ((c.tc : Thread Cert.MixDil1RefIdeal.nD Cert.MixDil1RefIdeal.τ).loc Cert.MixDil1RefIdeal.main_arg1) = m ((c.tc : Thread Cert.MixDil1Ideal.nD Cert.MixDil1Ideal.τ).loc Cert.MixDil1Ideal.main_arg1)) →
    ∃ (v0 : (c : Dev Cert.MixDil1Ideal.nD) → Buf (Elt Ideal) ((c.tc : Thread Cert.MixDil1Ideal.nD Cert.MixDil1Ideal.τ).loc Cert.MixDil1Ideal.main_v1)),
      θ_run (Cert.MixDil1Ideal.defs (F := Ideal)) (onTc (τ := Cert.MixDil1Ideal.τ) (Cert.MixDil1Ideal.main (F := Ideal))) ⟨m, fun _ => 0, g⟩ (fun r => ∀ c : Dev Cert.MixDil1Ideal.nD,
          r.2.mem ((c.tc : Thread Cert.MixDil1Ideal.nD Cert.MixDil1Ideal.τ).loc Cert.MixDil1Ideal.main_v1) = v0 c
          ∧ r.2.mem ((c.tc : Thread Cert.MixDil1Ideal.nD Cert.MixDil1Ideal.τ).loc Cert.MixDil1Ideal.main_arg0) = m ((c.tc : Thread Cert.MixDil1Ideal.nD Cert.MixDil1Ideal.τ).loc Cert.MixDil1Ideal.main_arg0)
          ∧ r.2.mem ((c.tc : Thread Cert.MixDil1Ideal.nD Cert.MixDil1Ideal.τ).loc Cert.MixDil1Ideal.main_arg1) = m ((c.tc : Thread Cert.MixDil1Ideal.nD Cert.MixDil1Ideal.τ).loc Cert.MixDil1Ideal.main_arg1))
      ∧ θ_run (Cert.MixDil1RefIdeal.defs (F := Ideal)) (onTc (τ := Cert.MixDil1RefIdeal.τ) (Cert.MixDil1RefIdeal.main (F := Ideal))) ⟨m', fun _ => 0, g'⟩ (fun r => ∀ c : Dev Cert.MixDil1RefIdeal.nD,
          r.2.mem ((c.tc : Thread Cert.MixDil1RefIdeal.nD Cert.MixDil1RefIdeal.τ).loc Cert.MixDil1RefIdeal.main_v16) = v0 c
          ∧ r.2.mem ((c.tc : Thread Cert.MixDil1RefIdeal.nD Cert.MixDil1RefIdeal.τ).loc Cert.MixDil1RefIdeal.main_arg0) = m' ((c.tc : Thread Cert.MixDil1RefIdeal.nD Cert.MixDil1RefIdeal.τ).loc Cert.MixDil1RefIdeal.main_arg0)
          ∧ r.2.mem ((c.tc : Thread Cert.MixDil1RefIdeal.nD Cert.MixDil1RefIdeal.τ).loc Cert.MixDil1RefIdeal.main_arg1) = m' ((c.tc : Thread Cert.MixDil1RefIdeal.nD Cert.MixDil1RefIdeal.τ).loc Cert.MixDil1RefIdeal.main_arg1))

def preserves_MixQk_MixQkIdeal : Prop :=
  True

def algebraic_MixQkIdeal_MixQkRefIdeal [hMixQkIdeal : Cert.MixQkIdeal.Facts] [hMixQkRefIdeal : Cert.MixQkRefIdeal.Facts] : Prop :=
  ∀ (m : (ℓ : Loc Cert.MixQkIdeal.nD Cert.MixQkIdeal.τ Cert.MixQkIdeal.sig) → Buf (Elt Ideal) ℓ) (g : Dev Cert.MixQkIdeal.nD → PrngReg)
    (m' : (ℓ : Loc Cert.MixQkRefIdeal.nD Cert.MixQkRefIdeal.τ Cert.MixQkRefIdeal.sig) → Buf (Elt Ideal) ℓ) (g' : Dev Cert.MixQkRefIdeal.nD → PrngReg), Pre_MixQkIdeal m →
    (∀ c : Dev Cert.MixQkIdeal.nD,
      m' ((c.tc : Thread Cert.MixQkRefIdeal.nD Cert.MixQkRefIdeal.τ).loc Cert.MixQkRefIdeal.main_arg0) = m ((c.tc : Thread Cert.MixQkIdeal.nD Cert.MixQkIdeal.τ).loc Cert.MixQkIdeal.main_arg0)
      ∧ m' ((c.tc : Thread Cert.MixQkRefIdeal.nD Cert.MixQkRefIdeal.τ).loc Cert.MixQkRefIdeal.main_arg1) = m ((c.tc : Thread Cert.MixQkIdeal.nD Cert.MixQkIdeal.τ).loc Cert.MixQkIdeal.main_arg1)
      ∧ m' ((c.tc : Thread Cert.MixQkRefIdeal.nD Cert.MixQkRefIdeal.τ).loc Cert.MixQkRefIdeal.main_arg2) = m ((c.tc : Thread Cert.MixQkIdeal.nD Cert.MixQkIdeal.τ).loc Cert.MixQkIdeal.main_arg2)
      ∧ m' ((c.tc : Thread Cert.MixQkRefIdeal.nD Cert.MixQkRefIdeal.τ).loc Cert.MixQkRefIdeal.main_arg3) = m ((c.tc : Thread Cert.MixQkIdeal.nD Cert.MixQkIdeal.τ).loc Cert.MixQkIdeal.main_arg3)
      ∧ m' ((c.tc : Thread Cert.MixQkRefIdeal.nD Cert.MixQkRefIdeal.τ).loc Cert.MixQkRefIdeal.main_arg4) = m ((c.tc : Thread Cert.MixQkIdeal.nD Cert.MixQkIdeal.τ).loc Cert.MixQkIdeal.main_arg4)
      ∧ m' ((c.tc : Thread Cert.MixQkRefIdeal.nD Cert.MixQkRefIdeal.τ).loc Cert.MixQkRefIdeal.main_arg5) = m ((c.tc : Thread Cert.MixQkIdeal.nD Cert.MixQkIdeal.τ).loc Cert.MixQkIdeal.main_arg5)) →
    ∃ (v0 : (c : Dev Cert.MixQkIdeal.nD) → Buf (Elt Ideal) ((c.tc : Thread Cert.MixQkIdeal.nD Cert.MixQkIdeal.τ).loc Cert.MixQkIdeal.main_v27)),
      θ_run (Cert.MixQkIdeal.defs (F := Ideal)) (onTc (τ := Cert.MixQkIdeal.τ) (Cert.MixQkIdeal.main (F := Ideal))) ⟨m, fun _ => 0, g⟩ (fun r => ∀ c : Dev Cert.MixQkIdeal.nD,
          r.2.mem ((c.tc : Thread Cert.MixQkIdeal.nD Cert.MixQkIdeal.τ).loc Cert.MixQkIdeal.main_v27) = v0 c
          ∧ r.2.mem ((c.tc : Thread Cert.MixQkIdeal.nD Cert.MixQkIdeal.τ).loc Cert.MixQkIdeal.main_arg0) = m ((c.tc : Thread Cert.MixQkIdeal.nD Cert.MixQkIdeal.τ).loc Cert.MixQkIdeal.main_arg0)
          ∧ r.2.mem ((c.tc : Thread Cert.MixQkIdeal.nD Cert.MixQkIdeal.τ).loc Cert.MixQkIdeal.main_arg1) = m ((c.tc : Thread Cert.MixQkIdeal.nD Cert.MixQkIdeal.τ).loc Cert.MixQkIdeal.main_arg1)
          ∧ r.2.mem ((c.tc : Thread Cert.MixQkIdeal.nD Cert.MixQkIdeal.τ).loc Cert.MixQkIdeal.main_arg2) = m ((c.tc : Thread Cert.MixQkIdeal.nD Cert.MixQkIdeal.τ).loc Cert.MixQkIdeal.main_arg2)
          ∧ r.2.mem ((c.tc : Thread Cert.MixQkIdeal.nD Cert.MixQkIdeal.τ).loc Cert.MixQkIdeal.main_arg3) = m ((c.tc : Thread Cert.MixQkIdeal.nD Cert.MixQkIdeal.τ).loc Cert.MixQkIdeal.main_arg3)
          ∧ r.2.mem ((c.tc : Thread Cert.MixQkIdeal.nD Cert.MixQkIdeal.τ).loc Cert.MixQkIdeal.main_arg4) = m ((c.tc : Thread Cert.MixQkIdeal.nD Cert.MixQkIdeal.τ).loc Cert.MixQkIdeal.main_arg4)
          ∧ r.2.mem ((c.tc : Thread Cert.MixQkIdeal.nD Cert.MixQkIdeal.τ).loc Cert.MixQkIdeal.main_arg5) = m ((c.tc : Thread Cert.MixQkIdeal.nD Cert.MixQkIdeal.τ).loc Cert.MixQkIdeal.main_arg5))
      ∧ θ_run (Cert.MixQkRefIdeal.defs (F := Ideal)) (onTc (τ := Cert.MixQkRefIdeal.τ) (Cert.MixQkRefIdeal.main (F := Ideal))) ⟨m', fun _ => 0, g'⟩ (fun r => ∀ c : Dev Cert.MixQkRefIdeal.nD,
          r.2.mem ((c.tc : Thread Cert.MixQkRefIdeal.nD Cert.MixQkRefIdeal.τ).loc Cert.MixQkRefIdeal.main_v93) = v0 c
          ∧ r.2.mem ((c.tc : Thread Cert.MixQkRefIdeal.nD Cert.MixQkRefIdeal.τ).loc Cert.MixQkRefIdeal.main_arg0) = m' ((c.tc : Thread Cert.MixQkRefIdeal.nD Cert.MixQkRefIdeal.τ).loc Cert.MixQkRefIdeal.main_arg0)
          ∧ r.2.mem ((c.tc : Thread Cert.MixQkRefIdeal.nD Cert.MixQkRefIdeal.τ).loc Cert.MixQkRefIdeal.main_arg1) = m' ((c.tc : Thread Cert.MixQkRefIdeal.nD Cert.MixQkRefIdeal.τ).loc Cert.MixQkRefIdeal.main_arg1)
          ∧ r.2.mem ((c.tc : Thread Cert.MixQkRefIdeal.nD Cert.MixQkRefIdeal.τ).loc Cert.MixQkRefIdeal.main_arg2) = m' ((c.tc : Thread Cert.MixQkRefIdeal.nD Cert.MixQkRefIdeal.τ).loc Cert.MixQkRefIdeal.main_arg2)
          ∧ r.2.mem ((c.tc : Thread Cert.MixQkRefIdeal.nD Cert.MixQkRefIdeal.τ).loc Cert.MixQkRefIdeal.main_arg3) = m' ((c.tc : Thread Cert.MixQkRefIdeal.nD Cert.MixQkRefIdeal.τ).loc Cert.MixQkRefIdeal.main_arg3)
          ∧ r.2.mem ((c.tc : Thread Cert.MixQkRefIdeal.nD Cert.MixQkRefIdeal.τ).loc Cert.MixQkRefIdeal.main_arg4) = m' ((c.tc : Thread Cert.MixQkRefIdeal.nD Cert.MixQkRefIdeal.τ).loc Cert.MixQkRefIdeal.main_arg4)
          ∧ r.2.mem ((c.tc : Thread Cert.MixQkRefIdeal.nD Cert.MixQkRefIdeal.τ).loc Cert.MixQkRefIdeal.main_arg5) = m' ((c.tc : Thread Cert.MixQkRefIdeal.nD Cert.MixQkRefIdeal.τ).loc Cert.MixQkRefIdeal.main_arg5))

def Claim : Prop :=
  ∃ (hAttn : Cert.Attn.Facts) (hAttnIdeal : Cert.AttnIdeal.Facts) (hAttnRefIdeal : Cert.AttnRefIdeal.Facts) (hSwiglu : Cert.Swiglu.Facts) (hSwigluIdeal : Cert.SwigluIdeal.Facts) (hSwigluRefIdeal : Cert.SwigluRefIdeal.Facts) (hFfnOut : Cert.FfnOut.Facts) (hFfnOutIdeal : Cert.FfnOutIdeal.Facts) (hFfnOutRefIdeal : Cert.FfnOutRefIdeal.Facts) (hMerge : Cert.Merge.Facts) (hMergeIdeal : Cert.MergeIdeal.Facts) (hMergeRefIdeal : Cert.MergeRefIdeal.Facts) (hMixOut : Cert.MixOut.Facts) (hMixOutIdeal : Cert.MixOutIdeal.Facts) (hMixOutRefIdeal : Cert.MixOutRefIdeal.Facts) (hMixNat : Cert.MixNat.Facts) (hMixNatIdeal : Cert.MixNatIdeal.Facts) (hMixNatRefIdeal : Cert.MixNatRefIdeal.Facts) (hResidLast : Cert.ResidLast.Facts) (hResidLastIdeal : Cert.ResidLastIdeal.Facts) (hResidLastRefIdeal : Cert.ResidLastRefIdeal.Facts) (hMixDil1 : Cert.MixDil1.Facts) (hMixDil1Ideal : Cert.MixDil1Ideal.Facts) (hMixDil1RefIdeal : Cert.MixDil1RefIdeal.Facts) (hMixQk : Cert.MixQk.Facts) (hMixQkIdeal : Cert.MixQkIdeal.Facts) (hMixQkRefIdeal : Cert.MixQkRefIdeal.Facts) (hPre_finite_qk : Cert.Pre_finite_qk.Facts) (hOn_prompt_rows : Cert.On_prompt_rows.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixNat (hMixNat := hMixNat)
    ∧ quiescent_MixNatIdeal (hMixNatIdeal := hMixNatIdeal)
    ∧ quiescent_MixNatRefIdeal (hMixNatRefIdeal := hMixNatRefIdeal)
    ∧ quiescent_ResidLast (hResidLast := hResidLast)
    ∧ quiescent_ResidLastIdeal (hResidLastIdeal := hResidLastIdeal)
    ∧ quiescent_ResidLastRefIdeal (hResidLastRefIdeal := hResidLastRefIdeal)
    ∧ quiescent_MixDil1 (hMixDil1 := hMixDil1)
    ∧ quiescent_MixDil1Ideal (hMixDil1Ideal := hMixDil1Ideal)
    ∧ quiescent_MixDil1RefIdeal (hMixDil1RefIdeal := hMixDil1RefIdeal)
    ∧ quiescent_MixQk (hMixQk := hMixQk)
    ∧ quiescent_MixQkIdeal (hMixQkIdeal := hMixQkIdeal)
    ∧ quiescent_MixQkRefIdeal (hMixQkRefIdeal := hMixQkRefIdeal)
    ∧ preserves_Attn_AttnIdeal
    ∧ algebraic_AttnIdeal_AttnRefIdeal_on_prompt_rows_pre_finite_qk (hAttnIdeal := hAttnIdeal) (hAttnRefIdeal := hAttnRefIdeal) (hPre_finite_qk := hPre_finite_qk) (hOn_prompt_rows := hOn_prompt_rows)
    ∧ preserves_Swiglu_SwigluIdeal
    ∧ algebraic_SwigluIdeal_SwigluRefIdeal (hSwigluIdeal := hSwigluIdeal) (hSwigluRefIdeal := hSwigluRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Merge_MergeIdeal
    ∧ algebraic_MergeIdeal_MergeRefIdeal (hMergeIdeal := hMergeIdeal) (hMergeRefIdeal := hMergeRefIdeal)
    ∧ preserves_MixOut_MixOutIdeal
    ∧ algebraic_MixOutIdeal_MixOutRefIdeal (hMixOutIdeal := hMixOutIdeal) (hMixOutRefIdeal := hMixOutRefIdeal)
    ∧ preserves_MixNat_MixNatIdeal
    ∧ algebraic_MixNatIdeal_MixNatRefIdeal (hMixNatIdeal := hMixNatIdeal) (hMixNatRefIdeal := hMixNatRefIdeal)
    ∧ preserves_ResidLast_ResidLastIdeal
    ∧ algebraic_ResidLastIdeal_ResidLastRefIdeal (hResidLastIdeal := hResidLastIdeal) (hResidLastRefIdeal := hResidLastRefIdeal)
    ∧ preserves_MixDil1_MixDil1Ideal
    ∧ algebraic_MixDil1Ideal_MixDil1RefIdeal (hMixDil1Ideal := hMixDil1Ideal) (hMixDil1RefIdeal := hMixDil1RefIdeal)
    ∧ preserves_MixQk_MixQkIdeal
    ∧ algebraic_MixQkIdeal_MixQkRefIdeal (hMixQkIdeal := hMixQkIdeal) (hMixQkRefIdeal := hMixQkRefIdeal)
-- ==== On_prompt_rows.lean ====
abbrev S16384x1536 : Shape := ⟨2, ![16384, 1536]⟩
abbrev S16384x512 : Shape := ⟨2, ![16384, 512]⟩
abbrev S_ : Shape := ⟨0, ![]⟩

class Facts : Prop where
  bcast_S_S16384x1536 : S_.BroadcastsInDim S16384x1536 (![] : Fin 0 → Fin S16384x1536.rank)

variable [Facts]

def fn {F : FTy → Type} [FloatOps F] (main_arg0 : FVec F S16384x1536 .f32) (main_arg1 : FVec F S16384x512 .f32) (main_arg2 : FVec F S16384x512 .f32) : IVec S16384x1536 1 :=
  let main_v0 : IVec S16384x1536 32 := iotaInDim S16384x1536 32 0
  let main_c : IVec S_ 32 := constantI S_ 32 8192#32
  let main_v1 : IVec S16384x1536 32 := broadcastInDim S16384x1536 ![] bcast_S_S16384x1536 main_c
  let main_v2 : IVec S16384x1536 1 := cmpi .slt main_v0 main_v1
  main_v2
-- ==== Pre_finite_qk.lean ====
abbrev S16384x1536 : Shape := ⟨2, ![16384, 1536]⟩
abbrev S16384x512 : Shape := ⟨2, ![16384, 512]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x1536 .f32) (main_arg1 : FVec F S16384x512 .f32) (main_arg2 : FVec F S16384x512 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Attn.lean ====
abbrev S16384x1536 : Shape := ⟨2, ![16384, 1536]⟩
abbrev S16384x512 : Shape := ⟨2, ![16384, 512]⟩
abbrev S_ : Shape := ⟨0, ![]⟩
abbrev S16384x2048 : Shape := ⟨2, ![16384, 2048]⟩
abbrev S16384x4608 : Shape := ⟨2, ![16384, 4608]⟩
abbrev S1024x384 : Shape := ⟨2, ![1024, 384]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x1536, .f32⟩
  | .hbm, ⟨11, _⟩ => ⟨S16384x1536, .f32⟩
  | .hbm, ⟨12, _⟩ => ⟨S16384x2048, .f32⟩
  | .hbm, ⟨13, _⟩ => ⟨S16384x2048, .bf16⟩
  | .hbm, ⟨14, _⟩ => ⟨S_, .i32⟩
  | .hbm, ⟨15, _⟩ => ⟨S_, .f32⟩
  | .hbm, ⟨16, _⟩ => ⟨S16384x4608, .f32⟩
  | .hbm, ⟨17, _⟩ => ⟨S16384x4608, .bf16⟩
  | .hbm, ⟨18, _⟩ => ⟨S16384x1536, .bf16⟩
  | .local _ .vmem, ⟨0, _⟩ => ⟨S1024x384, .bf16⟩
  | .local _ .vmem, ⟨1, _⟩ => ⟨S1024x384, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x384, .bf16⟩
  | .local _ .vmem, ⟨7, _⟩ => ⟨S1024x384, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c20_i32 : BitVec 32 := 20#32
  let v1 : BitVec 32 := Scalar.addi c20_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16384x1536 : Shape := ⟨2, ![16384, 1536]⟩
abbrev S16384x512 : Shape := ⟨2, ![16384, 512]⟩
abbrev S8192x1536 : Shape := ⟨2, ![8192, 1536]⟩
abbrev S2x4096x4x3x128 : Shape := ⟨5, ![2, 4096, 4, 3, 128]⟩
abbrev S8192x512 : Shape := ⟨2, ![8192, 512]⟩
abbrev S2x4096x4x128 : Shape := ⟨4, ![2, 4096, 4, 128]⟩
abbrev S2x4x4096x4096x3 : Shape := ⟨5, ![2, 4, 4096, 4096, 3]⟩
abbrev S2x4x3x4096x4096 : Shape := ⟨5, ![2, 4, 3, 4096, 4096]⟩
abbrev S_ : Shape := ⟨0, ![]⟩
abbrev S2x4x3x4096 : Shape := ⟨4, ![2, 4, 3, 4096]⟩
abbrev S2x4x3x4096x1 : Shape := ⟨5, ![2, 4, 3, 4096, 1]⟩
abbrev S2x4x128x3x4096 : Shape := ⟨5, ![2, 4, 128, 3, 4096]⟩
abbrev S4x2048x4x3x128 : Shape := ⟨5, ![4, 2048, 4, 3, 128]⟩
abbrev S4x2048x4x128 : Shape := ⟨4, ![4, 2048, 4, 128]⟩
abbrev S4x4x2048x2048x3 : Shape := ⟨5, ![4, 4, 2048, 2048, 3]⟩
abbrev S4x4x3x2048x2048 : Shape := ⟨5, ![4, 4, 3, 2048, 2048]⟩
abbrev S4x4x3x2048 : Shape := ⟨4, ![4, 4, 3, 2048]⟩
abbrev S4x4x3x2048x1 : Shape := ⟨5, ![4, 4, 3, 2048, 1]⟩
abbrev S4x4x128x3x2048 : Shape := ⟨5, ![4, 4, 128, 3, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S16384x512, .f32⟩
  | .hbm, ⟨3, _⟩ => ⟨S8192x1536, .f32⟩
  | .hbm, ⟨4, _⟩ => ⟨S2x4096x4x3x128, .f32⟩
  | .hbm, ⟨5, _⟩ => ⟨S8192x512, .f32⟩
  | .hbm, ⟨6, _⟩ => ⟨S2x4096x4x128, .f32⟩
  | .hbm, ⟨7, _⟩ => ⟨S8192x512, .f32⟩
  | .hbm, ⟨8, _⟩ => ⟨S2x4096x4x128, .f32⟩
  | .hbm, ⟨9, _⟩ => ⟨S2x4x4096x4096x3, .f32⟩
  | .hbm, ⟨10, _⟩ => ⟨S2x4x3x4096x4096, .f32⟩
  | .hbm, ⟨11, _⟩ => ⟨S_, .f32⟩
  | .hbm, ⟨12, _⟩ => ⟨S_, .f32⟩
  | .hbm, ⟨13, _⟩ => ⟨S2x4x3x4096x4096, .f32⟩
  | .hbm, ⟨14, _⟩ => ⟨S2x4x3x4096x4096, .f32⟩
  | .hbm, ⟨15, _⟩ => ⟨S_, .f32⟩
  | .hbm, ⟨16, _⟩ => ⟨S2x4x3x4096, .f32⟩
  | .hbm, ⟨17, _⟩ => ⟨S_, .f32⟩
  | .hbm, ⟨18, _⟩ => ⟨S2x4x3x4096, .f32⟩
  | .hbm, ⟨19, _⟩ => ⟨S2x4x3x4096, .f32⟩
  | .hbm, ⟨20, _⟩ => ⟨S2x4x3x4096x1, .f32⟩
  | .hbm, ⟨21, _⟩ => ⟨S2x4x3x4096x4096, .f32⟩
  | .hbm, ⟨22, _⟩ => ⟨S2x4x3x4096x4096, .f32⟩
  | .hbm, ⟨23, _⟩ => ⟨S2x4x3x4096x4096, .f32⟩
  | .hbm, ⟨24, _⟩ => ⟨S_, .f32⟩
  | .hbm, ⟨25, _⟩ => ⟨S2x4x3x4096, .f32⟩
  | .hbm, ⟨26, _⟩ => ⟨S2x4x3x4096x1, .f32⟩
  | .hbm, ⟨27, _⟩ => ⟨S2x4x3x4096x4096, .f32⟩
  | .hbm, ⟨28, _⟩ => ⟨S2x4x3x4096x4096, .f32⟩
  | .hbm, ⟨29, _⟩ => ⟨S2x4x128x3x4096, .f32⟩
  | .hbm, ⟨30, _⟩ => ⟨S2x4096x4x3x128, .f32⟩
  | .hbm, ⟨31, _⟩ => ⟨S8192x1536, .f32⟩
  | .hbm, ⟨32, _⟩ => ⟨S8192x1536, .f32⟩
  | .hbm, ⟨33, _⟩ => ⟨S4x2048x4x3x128, .f32⟩
  | .hbm, ⟨34, _⟩ => ⟨S8192x512, .f32⟩
  | .hbm, ⟨35, _⟩ => ⟨S4x2048x4x128, .f32⟩
  | .hbm, ⟨36, _⟩ => ⟨S8192x512, .f32⟩
  | .hbm, ⟨37, _⟩ => ⟨S4x2048x4x128, .f32⟩
  | .hbm, ⟨38, _⟩ => ⟨S4x4x2048x2048x3, .f32⟩
  | .hbm, ⟨39, _⟩ => ⟨S4x4x3x2048x2048, .f32⟩
  | .hbm, ⟨40, _⟩ => ⟨S_, .f32⟩
  | .hbm, ⟨41, _⟩ => ⟨S_, .f32⟩
  | .hbm, ⟨42, _⟩ => ⟨S4x4x3x2048x2048, .f32⟩
  | .hbm, ⟨43, _⟩ => ⟨S4x4x3x2048x2048, .f32⟩
  | .hbm, ⟨44, _⟩ => ⟨S_, .f32⟩
  | .hbm, ⟨45, _⟩ => ⟨S4x4x3x2048, .f32⟩
  | .hbm, ⟨46, _⟩ => ⟨S_, .f32⟩
  | .hbm, ⟨47, _⟩ => ⟨S4x4x3x2048, .f32⟩
  | .hbm, ⟨48, _⟩ => ⟨S4x4x3x2048, .f32⟩
  | .hbm, ⟨49, _⟩ => ⟨S4x4x3x2048x1, .f32⟩
  | .hbm, ⟨50, _⟩ => ⟨S4x4x3x2048x2048, .f32⟩
  | .hbm, ⟨51, _⟩ => ⟨S4x4x3x2048x2048, .f32⟩
  | .hbm, ⟨52, _⟩ => ⟨S4x4x3x2048x2048, .f32⟩
  | .hbm, ⟨53, _⟩ => ⟨S_, .f32⟩
  | .hbm, ⟨54, _⟩ => ⟨S4x4x3x2048, .f32⟩
  | .hbm, ⟨55, _⟩ => ⟨S4x4x3x2048x1, .f32⟩
  | .hbm, ⟨56, _⟩ => ⟨S4x4x3x2048x2048, .f32⟩
  | .hbm, ⟨57, _⟩ => ⟨S4x4x3x2048x2048, .f32⟩
  | .hbm, ⟨58, _⟩ => ⟨S4x4x128x3x2048, .f32⟩
  | .hbm, ⟨59, _⟩ => ⟨S4x2048x4x3x128, .f32⟩
  | .hbm, ⟨60, _⟩ => ⟨S8192x1536, .f32⟩
  | .hbm, ⟨61, _⟩ => ⟨S16384x1536, .f32⟩
  | .hbm, ⟨62, _⟩ => ⟨S16384x1536, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Swiglu.lean ====
abbrev S16384x4096 : Shape := ⟨2, ![16384, 4096]⟩
abbrev S2x4096x22016 : Shape := ⟨3, ![2, 4096, 22016]⟩
abbrev S2x11008x4096 : Shape := ⟨3, ![2, 11008, 4096]⟩
abbrev S16384x11008 : Shape := ⟨2, ![16384, 11008]⟩
abbrev S11008x4096 : Shape := ⟨2, ![11008, 4096]⟩
abbrev S2048x4096 : Shape := ⟨2, ![2048, 4096]⟩
abbrev S1x4096x256 : Shape := ⟨3, ![1, 4096, 256]⟩
abbrev S1x32x4096 : Shape := ⟨3, ![1, 32, 4096]⟩
abbrev S2048x256 : Shape := ⟨2, ![2048, 256]⟩
abbrev S32x4096 : Shape := ⟨2, ![32, 4096]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x11008x4096, .f32⟩
  | .hbm, ⟨3, _⟩ => ⟨S16384x11008, .bf16⟩
  | .hbm, ⟨4, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x32x4096, .f32⟩
  | .local _ .vmem, ⟨7, _⟩ => ⟨S1x32x4096, .f32⟩
  | .local _ .vmem, ⟨8, _⟩ => ⟨S2048x256, .bf16⟩
  | .local _ .vmem, ⟨9, _⟩ => ⟨S2048x256, .bf16⟩
  | .local _ .vmem, ⟨10, _⟩ => ⟨S32x4096, .bf16⟩
  | .local _ .vmem, ⟨11, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S16384x4096 : Shape := ⟨2, ![16384, 4096]⟩
abbrev S2x4096x22016 : Shape := ⟨3, ![2, 4096, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x11008x4096, .f32⟩
  | .hbm, ⟨3, _⟩ => ⟨S16384x4096, .f32⟩
  | .hbm, ⟨4, _⟩ => ⟨S1x4096x22016, .f32⟩
  | .hbm, ⟨5, _⟩ => ⟨S4096x22016, .f32⟩
  | .hbm, ⟨6, _⟩ => ⟨S16384x22016, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S16384x11008, .bf16⟩
  | .hbm, ⟨20, _⟩ => ⟨S1x11008x4096, .f32⟩
  | .hbm, ⟨21, _⟩ => ⟨S11008x4096, .f32⟩
  | .hbm, ⟨22, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnOut.lean ====
abbrev S16384x11008 : Shape := ⟨2, ![16384, 11008]⟩
abbrev S11008x4096 : Shape := ⟨2, ![11008, 4096]⟩
abbrev S2x4096x12288 : Shape := ⟨3, ![2, 4096, 12288]⟩
abbrev S2x4096x9728 : Shape := ⟨3, ![2, 4096, 9728]⟩
abbrev S1x11008x4096 : Shape := ⟨3, ![1, 11008, 4096]⟩
abbrev S16384x4096 : Shape := ⟨2, ![16384, 4096]⟩
abbrev S4096x12288 : Shape := ⟨2, ![4096, 12288]⟩
abbrev S4096x9728 : Shape := ⟨2, ![4096, 9728]⟩
abbrev S512x11008 : Shape := ⟨2, ![512, 11008]⟩
abbrev S1x11008x512 : Shape := ⟨3, ![1, 11008, 512]⟩
abbrev S1x16x12288 : Shape := ⟨3, ![1, 16, 12288]⟩
abbrev S1x16x9728 : Shape := ⟨3, ![1, 16, 9728]⟩
abbrev S512x512 : Shape := ⟨2, ![512, 512]⟩
abbrev S16x12288 : Shape := ⟨2, ![16, 12288]⟩
abbrev S16x9728 : Shape := ⟨2, ![16, 9728]⟩
abbrev S11008x512 : Shape := ⟨2, ![11008, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S2x4096x12288, .f32⟩
  | .hbm, ⟨3, _⟩ => ⟨S2x4096x9728, .f32⟩
  | .hbm, ⟨4, _⟩ => ⟨S1x11008x4096, .bf16⟩
  | .hbm, ⟨5, _⟩ => ⟨S16384x4096, .bf16⟩
  | .hbm, ⟨6, _⟩ => ⟨S4096x12288, .bf16⟩
  | .hbm, ⟨7, _⟩ => ⟨S4096x9728, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S1x16x12288, .f32⟩
  | .local _ .vmem, ⟨5, _⟩ => ⟨S1x16x12288, .f32⟩
  | .local _ .vmem, ⟨6, _⟩ => ⟨S1x16x9728, .f32⟩
  | .local _ .vmem, ⟨7, _⟩ => ⟨S1x16x9728, .f32⟩
  | .local _ .vmem, ⟨8, _⟩ => ⟨S512x512, .bf16⟩
  | .local _ .vmem, ⟨9, _⟩ => ⟨S512x512, .bf16⟩
  | .local _ .vmem, ⟨10, _⟩ => ⟨S16x12288, .bf16⟩
  | .local _ .vmem, ⟨11, _⟩ => ⟨S16x12288, .bf16⟩
  | .local _ .vmem, ⟨12, _⟩ => ⟨S16x9728, .bf16⟩
  | .local _ .vmem, ⟨13, _⟩ => ⟨S16x9728, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x9728 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x12288 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x9728 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnOutRefIdeal.lean ====
abbrev S16384x11008 : Shape := ⟨2, ![16384, 11008]⟩
abbrev S11008x4096 : Shape := ⟨2, ![11008, 4096]⟩
abbrev S2x4096x12288 : Shape := ⟨3, ![2, 4096, 12288]⟩
abbrev S2x4096x9728 : Shape := ⟨3, ![2, 4096, 9728]⟩
abbrev S16384x4096 : Shape := ⟨2, ![16384, 4096]⟩
abbrev S1x4096x12288 : Shape := ⟨3, ![1, 4096, 12288]⟩
abbrev S4096x12288 : Shape := ⟨2, ![4096, 12288]⟩
abbrev S1x4096x9728 : Shape := ⟨3, ![1, 4096, 9728]⟩
abbrev S4096x9728 : Shape := ⟨2, ![4096, 9728]⟩

abbrev nBuf : Space → Nat
  | .hbm => 14
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S2x4096x12288, .f32⟩
  | .hbm, ⟨3, _⟩ => ⟨S2x4096x9728, .f32⟩
  | .hbm, ⟨4, _⟩ => ⟨S16384x11008, .f32⟩
  | .hbm, ⟨5, _⟩ => ⟨S11008x4096, .f32⟩
  | .hbm, ⟨6, _⟩ => ⟨S16384x4096, .f32⟩
  | .hbm, ⟨7, _⟩ => ⟨S16384x4096, .bf16⟩
  | .hbm, ⟨8, _⟩ => ⟨S1x4096x12288, .f32⟩
  | .hbm, ⟨9, _⟩ => ⟨S4096x12288, .f32⟩
  | .hbm, ⟨10, _⟩ => ⟨S4096x12288, .bf16⟩
  | .hbm, ⟨11, _⟩ => ⟨S1x4096x9728, .f32⟩
  | .hbm, ⟨12, _⟩ => ⟨S4096x9728, .f32⟩
  | .hbm, ⟨13, _⟩ => ⟨S4096x9728, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Merge.lean ====
abbrev S16384x4096 : Shape := ⟨2, ![16384, 4096]⟩
abbrev S16384x1536 : Shape := ⟨2, ![16384, 1536]⟩
abbrev S16384x2560 : Shape := ⟨2, ![16384, 2560]⟩
abbrev S16384x512 : Shape := ⟨2, ![16384, 512]⟩
abbrev S4096x12288 : Shape := ⟨2, ![4096, 12288]⟩
abbrev S2x12288 : Shape := ⟨2, ![2, 12288]⟩
abbrev S2x1536x4096 : Shape := ⟨3, ![2, 1536, 4096]⟩
abbrev S2x2560x4096 : Shape := ⟨3, ![2, 2560, 4096]⟩
abbrev S2x512x4096 : Shape := ⟨3, ![2, 512, 4096]⟩
abbrev S1x4096x12288 : Shape := ⟨3, ![1, 4096, 12288]⟩
abbrev S2x1x12288 : Shape := ⟨3, ![2, 1, 12288]⟩
abbrev S512x4096 : Shape := ⟨2, ![512, 4096]⟩
abbrev S512x1536 : Shape := ⟨2, ![512, 1536]⟩
abbrev S512x2560 : Shape := ⟨2, ![512, 2560]⟩
abbrev S512x512 : Shape := ⟨2, ![512, 512]⟩
abbrev S1x4096x256 : Shape := ⟨3, ![1, 4096, 256]⟩
abbrev S1x1x256 : Shape := ⟨3, ![1, 1, 256]⟩
abbrev S1x1536x256 : Shape := ⟨3, ![1, 1536, 256]⟩
abbrev S1x2560x256 : Shape := ⟨3, ![1, 2560, 256]⟩
abbrev S1x512x256 : Shape := ⟨3, ![1, 512, 256]⟩
abbrev S512x256 : Shape := ⟨2, ![512, 256]⟩
abbrev S4096x256 : Shape := ⟨2, ![4096, 256]⟩
abbrev S1x256 : Shape := ⟨2, ![1, 256]⟩
abbrev S1536x256 : Shape := ⟨2, ![1536, 256]⟩
abbrev S2560x256 : Shape := ⟨2, ![2560, 256]⟩

abbrev nBuf : Space → Nat
  | .hbm => 12
  | .vmem => 28
  | .smem => 0
  | _ => 0

abbrev bufTy : (tb : Table) → Fin (tcTables nBuf tb) → BufTy
  | .hbm, ⟨0, _⟩ => ⟨S16384x4096, .bf16⟩
  | .hbm, ⟨1, _⟩ => ⟨S16384x1536, .bf16⟩
  | .hbm, ⟨2, _⟩ => ⟨S16384x2560, .bf16⟩
  | .hbm, ⟨3, _⟩ => ⟨S16384x512, .bf16⟩
  | .hbm, ⟨4, _⟩ => ⟨S4096x12288, .bf16⟩
  | .hbm, ⟨5, _⟩ => ⟨S2x12288, .f32⟩
  | .hbm, ⟨6, _⟩ => ⟨S2x1536x4096, .bf16⟩
  | .hbm, ⟨7, _⟩ => ⟨S2x2560x4096, .bf16⟩
  | .hbm, ⟨8, _⟩ => ⟨S2x512x4096, .bf16⟩
  | .hbm, ⟨9, _⟩ => ⟨S1x4096x12288, .bf16⟩
  | .hbm, ⟨10, _⟩ => ⟨S2x1x12288, .f32⟩
  | .hbm, ⟨11, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1536, .bf16⟩
  | .local _ .vmem, ⟨3, _⟩ => ⟨S512x1536, .bf16⟩
  | .local _ .vmem, ⟨4, _⟩ => ⟨S512x2560, .bf16⟩
  | .local _ .vmem, ⟨5, _⟩ => ⟨S512x2560, .bf16⟩
  | .local _ .vmem, ⟨6, _⟩ => ⟨S512x512, .bf16⟩
  | .local _ .vmem, ⟨7, _⟩ => ⟨S512x512, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1536x256, .bf16⟩
  | .local _ .vmem, ⟨21, _⟩ => ⟨S1x1536x256, .bf16⟩
  | .local _ .vmem, ⟨22, _⟩ => ⟨S1x2560x256, .bf16⟩
  | .local _ .vmem, ⟨23, _⟩ => ⟨S1x2560x256, .bf16⟩
  | .local _ .vmem, ⟨24, _⟩ => ⟨S1x512x256, .bf16⟩
  | .local _ .vmem, ⟨25, _⟩ => ⟨S1x512x256, .bf16⟩
  | .local _ .vmem, ⟨26, _⟩ => ⟨S512x256, .bf16⟩
  | .local _ .vmem, ⟨27, _⟩ => ⟨S512x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1536x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2560x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16384x4096 : Shape := ⟨2, ![16384, 4096]⟩
abbrev S16384x1536 : Shape := ⟨2, ![16384, 1536]⟩
abbrev S16384x2560 : Shape := ⟨2, ![16384, 2560]⟩
abbrev S16384x512 : Shape := ⟨2, ![16384, 512]⟩
abbrev S4096x12288 : Shape := ⟨2, ![4096, 12288]⟩
abbrev S2x12288 : Shape := ⟨2, ![2, 12288]⟩
abbrev S2x1536x4096 : Shape := ⟨3, ![2, 1536, 4096]⟩
abbrev S2x2560x4096 : Shape := ⟨3, ![2, 2560, 4096]⟩
abbrev S2x512x4096 : Shape := ⟨3, ![2, 512, 4096]⟩
abbrev S16384x12288 : Shape := ⟨2, ![16384, 12288]⟩
abbrev S1x12288 : Shape := ⟨2, ![1, 12288]⟩
abbrev S12288 : Shape := ⟨1, ![12288]⟩
abbrev S_ : Shape := ⟨0, ![]⟩
abbrev S16384x3x4096 : Shape := ⟨3, ![16384, 3, 4096]⟩
abbrev S1x1536x4096 : Shape := ⟨3, ![1, 1536, 4096]⟩
abbrev S1536x4096 : Shape := ⟨2, ![1536, 4096]⟩
abbrev S1x2560x4096 : Shape := ⟨3, ![1, 2560, 4096]⟩
abbrev S2560x4096 : Shape := ⟨2, ![2560, 4096]⟩
abbrev S1x512x4096 : Shape := ⟨3, ![1, 512, 4096]⟩
abbrev S512x4096 : Shape := ⟨2, ![512, 4096]⟩
abbrev S16384x1x4096 : Shape := ⟨3, ![16384, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1536, .bf16⟩
  | .hbm, ⟨2, _⟩ => ⟨S16384x2560, .bf16⟩
  | .hbm, ⟨3, _⟩ => ⟨S16384x512, .bf16⟩
  | .hbm, ⟨4, _⟩ => ⟨S4096x12288, .bf16⟩
  | .hbm, ⟨5, _⟩ => ⟨S2x12288, .f32⟩
  | .hbm, ⟨6, _⟩ => ⟨S2x1536x4096, .bf16⟩
  | .hbm, ⟨7, _⟩ => ⟨S2x2560x4096, .bf16⟩
  | .hbm, ⟨8, _⟩ => ⟨S2x512x4096, .bf16⟩
  | .hbm, ⟨9, _⟩ => ⟨S16384x4096, .f32⟩
  | .hbm, ⟨10, _⟩ => ⟨S4096x12288, .f32⟩
  | .hbm, ⟨11, _⟩ => ⟨S16384x12288, .f32⟩
  | .hbm, ⟨12, _⟩ => ⟨S1x12288, .f32⟩
  | .hbm, ⟨13, _⟩ => ⟨S12288, .f32⟩
  | .hbm, ⟨14, _⟩ => ⟨S1x12288, .f32⟩
  | .hbm, ⟨15, _⟩ => ⟨S16384x12288, .f32⟩
  | .hbm, ⟨16, _⟩ => ⟨S16384x12288, .f32⟩
  | .hbm, ⟨17, _⟩ => ⟨S16384x12288, .f32⟩
  | .hbm, ⟨18, _⟩ => ⟨S16384x12288, .f32⟩
  | .hbm, ⟨19, _⟩ => ⟨S_, .f32⟩
  | .hbm, ⟨20, _⟩ => ⟨S16384x12288, .f32⟩
  | .hbm, ⟨21, _⟩ => ⟨S16384x12288, .f32⟩
  | .hbm, ⟨22, _⟩ => ⟨S_, .f32⟩
  | .hbm, ⟨23, _⟩ => ⟨S16384x12288, .f32⟩
  | .hbm, ⟨24, _⟩ => ⟨S16384x12288, .f32⟩
  | .hbm, ⟨25, _⟩ => ⟨S16384x3x4096, .f32⟩
  | .hbm, ⟨26, _⟩ => ⟨S16384x1536, .f32⟩
  | .hbm, ⟨27, _⟩ => ⟨S1x1536x4096, .bf16⟩
  | .hbm, ⟨28, _⟩ => ⟨S1536x4096, .bf16⟩
  | .hbm, ⟨29, _⟩ => ⟨S1536x4096, .f32⟩
  | .hbm, ⟨30, _⟩ => ⟨S16384x4096, .f32⟩
  | .hbm, ⟨31, _⟩ => ⟨S16384x2560, .f32⟩
  | .hbm, ⟨32, _⟩ => ⟨S1x2560x4096, .bf16⟩
  | .hbm, ⟨33, _⟩ => ⟨S2560x4096, .bf16⟩
  | .hbm, ⟨34, _⟩ => ⟨S2560x4096, .f32⟩
  | .hbm, ⟨35, _⟩ => ⟨S16384x4096, .f32⟩
  | .hbm, ⟨36, _⟩ => ⟨S16384x512, .f32⟩
  | .hbm, ⟨37, _⟩ => ⟨S1x512x4096, .bf16⟩
  | .hbm, ⟨38, _⟩ => ⟨S512x4096, .bf16⟩
  | .hbm, ⟨39, _⟩ => ⟨S512x4096, .f32⟩
  | .hbm, ⟨40, _⟩ => ⟨S16384x4096, .f32⟩
  | .hbm, ⟨41, _⟩ => ⟨S16384x1x4096, .f32⟩
  | .hbm, ⟨42, _⟩ => ⟨S16384x4096, .f32⟩
  | .hbm, ⟨43, _⟩ => ⟨S16384x4096, .f32⟩
  | .hbm, ⟨44, _⟩ => ⟨S16384x1x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x1x4096, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== MixOut.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutRefIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MixNat.lean ====
abbrev S16384x4096 : Shape := ⟨2, ![16384, 4096]⟩
abbrev S4096x9728 : Shape := ⟨2, ![4096, 9728]⟩
abbrev S1x4096x9728 : Shape := ⟨3, ![1, 4096, 9728]⟩
abbrev S16384x4608 : Shape := ⟨2, ![16384, 4608]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S1x4096x9728, .bf16⟩
  | .hbm, ⟨3, _⟩ => ⟨S16384x4608, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c5_i32_0 : BitVec 32 := 5#32
  let v1 : BitVec 32 := Scalar.addi c5_i32_0 arg1
  let c5_i32_1 : BitVec 32 := 5#32
  let v2 : BitVec 1 := Scalar.cmpi .eq arg1 c5_i32_1
  let c6_i32 : BitVec 32 := 6#32
  let v3 : BitVec 32 := Scalar.subi arg1 c6_i32
  let c3_i32 : BitVec 32 := 3#32
  let v4 : BitVec 32 := Scalar.muli c3_i32 v3
  let c10_i32 : BitVec 32 := 10#32
  let v5 : BitVec 32 := Scalar.addi c10_i32 v4
  let c4_i32 : BitVec 32 := 4#32
  let v6 : BitVec 32 := Scalar.select v2 c4_i32 v5
  let v7 : BitVec 32 := Scalar.select v0 v1 v6
  let c0_i32 : BitVec 32 := 0#32
  let c0_i32_2 : BitVec 32 := 0#32
  let c0_i32_3 : BitVec 32 := 0#32
  ![c0_i32.toNat, c0_i32_2.toNat, v7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixNatRefIdeal.lean ====
abbrev S16384x4096 : Shape := ⟨2, ![16384, 4096]⟩
abbrev S4096x9728 : Shape := ⟨2, ![4096, 9728]⟩
abbrev S16384x9728 : Shape := ⟨2, ![16384, 9728]⟩
abbrev S16384x1536 : Shape := ⟨2, ![16384, 1536]⟩
abbrev S16384x512 : Shape := ⟨2, ![16384, 512]⟩
abbrev S16384x2560 : Shape := ⟨2, ![16384, 2560]⟩
abbrev S16384x4608 : Shape := ⟨2, ![16384, 4608]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S16384x4096, .f32⟩
  | .hbm, ⟨3, _⟩ => ⟨S4096x9728, .f32⟩
  | .hbm, ⟨4, _⟩ => ⟨S16384x9728, .f32⟩
  | .hbm, ⟨5, _⟩ => ⟨S16384x1536, .f32⟩
  | .hbm, ⟨6, _⟩ => ⟨S16384x512, .f32⟩
  | .hbm, ⟨7, _⟩ => ⟨S16384x512, .f32⟩
  | .hbm, ⟨8, _⟩ => ⟨S16384x2560, .f32⟩
  | .hbm, ⟨9, _⟩ => ⟨S16384x1536, .f32⟩
  | .hbm, ⟨10, _⟩ => ⟨S16384x1536, .f32⟩
  | .hbm, ⟨11, _⟩ => ⟨S16384x1536, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x4608, .f32⟩
  | .hbm, ⟨16, _⟩ => ⟨S16384x4608, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== ResidLast.lean ====
abbrev S16384x4096 : Shape := ⟨2, ![16384, 4096]⟩
abbrev S2x4096 : Shape := ⟨2, ![2, 4096]⟩
abbrev S2x1x4096 : Shape := ⟨3, ![2, 1, 4096]⟩
abbrev S8192x4096 : Shape := ⟨2, ![8192, 4096]⟩
abbrev S256x4096 : Shape := ⟨2, ![256, 4096]⟩
abbrev S1x1x4096 : Shape := ⟨3, ![1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S2x4096, .f32⟩
  | .hbm, ⟨3, _⟩ => ⟨S2x1x4096, .f32⟩
  | .hbm, ⟨4, _⟩ => ⟨S8192x4096, .f32⟩
  | .hbm, ⟨5, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c32_i32 : BitVec 32 := 32#32
  let v20 : BitVec 1 := Scalar.cmpi .slt arg0 c32_i32
  let v21 : BitVec 32 := Scalar.extui v20
  let c0_i32 : BitVec 32 := 0#32
  let v22 : BitVec 1 := Scalar.cmpi .ne v21 c0_i32
  v22

def k0_cond2 (i : grid0.Coords) : BitVec 1 :=
  let arg0 : BitVec 32 := BitVec.ofNat 32 (i 0).val
  let c32_i32_9 : BitVec 32 := 32#32
  let v23 : BitVec 1 := Scalar.cmpi .sge arg0 c32_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidLastRefIdeal.lean ====
abbrev S16384x4096 : Shape := ⟨2, ![16384, 4096]⟩
abbrev S2x4096 : Shape := ⟨2, ![2, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096 : Shape := ⟨1, ![4096]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S2x4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S8192x4096, .f32⟩
  | .hbm, ⟨27, _⟩ => ⟨S8192x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MixDil1.lean ====
abbrev S16384x4096 : Shape := ⟨2, ![16384, 4096]⟩
abbrev S4096x9728 : Shape := ⟨2, ![4096, 9728]⟩
abbrev S1x4096x9728 : Shape := ⟨3, ![1, 4096, 9728]⟩
abbrev S4x4096x1536 : Shape := ⟨3, ![4, 4096, 1536]⟩
abbrev S1024x4096 : Shape := ⟨2, ![1024, 4096]⟩
abbrev S1x4096x512 : Shape := ⟨3, ![1, 4096, 512]⟩
abbrev S4x256x512 : Shape := ⟨3, ![4, 256, 512]⟩
abbrev S4x1024x128 : Shape := ⟨3, ![4, 1024, 128]⟩
abbrev S4096x512 : Shape := ⟨2, ![4096, 512]⟩
abbrev S256x4096 : Shape := ⟨2, ![256, 4096]⟩
abbrev S256x512 : Shape := ⟨2, ![256, 512]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S1x4096x9728, .bf16⟩
  | .hbm, ⟨3, _⟩ => ⟨S4x4096x1536, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDil1RefIdeal.lean ====
abbrev S16384x4096 : Shape := ⟨2, ![16384, 4096]⟩
abbrev S4096x9728 : Shape := ⟨2, ![4096, 9728]⟩
abbrev S16384x9728 : Shape := ⟨2, ![16384, 9728]⟩
abbrev S16384x1536 : Shape := ⟨2, ![16384, 1536]⟩
abbrev S16384x512 : Shape := ⟨2, ![16384, 512]⟩
abbrev S16384x2560 : Shape := ⟨2, ![16384, 2560]⟩
abbrev S4096x4x1536 : Shape := ⟨3, ![4096, 4, 1536]⟩
abbrev S4x4096x1536 : Shape := ⟨3, ![4, 4096, 1536]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S16384x4096, .f32⟩
  | .hbm, ⟨3, _⟩ => ⟨S4096x9728, .f32⟩
  | .hbm, ⟨4, _⟩ => ⟨S16384x9728, .f32⟩
  | .hbm, ⟨5, _⟩ => ⟨S16384x1536, .f32⟩
  | .hbm, ⟨6, _⟩ => ⟨S16384x512, .f32⟩
  | .hbm, ⟨7, _⟩ => ⟨S16384x512, .f32⟩
  | .hbm, ⟨8, _⟩ => ⟨S16384x2560, .f32⟩
  | .hbm, ⟨9, _⟩ => ⟨S16384x1536, .f32⟩
  | .hbm, ⟨10, _⟩ => ⟨S16384x1536, .f32⟩
  | .hbm, ⟨11, _⟩ => ⟨S16384x1536, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1536, .f32⟩
  | .hbm, ⟨16, _⟩ => ⟨S4096x4x1536, .f32⟩
  | .hbm, ⟨17, _⟩ => ⟨S4x4096x1536, .f32⟩
  | .hbm, ⟨18, _⟩ => ⟨S4x4096x1536, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== MixQk.lean ====
abbrev S16384x4096 : Shape := ⟨2, ![16384, 4096]⟩
abbrev S4096x9728 : Shape := ⟨2, ![4096, 9728]⟩
abbrev S2x128 : Shape := ⟨2, ![2, 128]⟩
abbrev S4096x64 : Shape := ⟨2, ![4096, 64]⟩
abbrev S4096x64x2 : Shape := ⟨3, ![4096, 64, 2]⟩
abbrev S4096x128 : Shape := ⟨2, ![4096, 128]⟩
abbrev S128 : Shape := ⟨1, ![128]⟩
abbrev S_ : Shape := ⟨0, ![]⟩
abbrev S1x128 : Shape := ⟨2, ![1, 128]⟩
abbrev S12x128 : Shape := ⟨2, ![12, 128]⟩
abbrev S4x128 : Shape := ⟨2, ![4, 128]⟩
abbrev S16x128 : Shape := ⟨2, ![16, 128]⟩
abbrev S2x1x128 : Shape := ⟨3, ![2, 1, 128]⟩
abbrev S2x1x12x128 : Shape := ⟨4, ![2, 1, 12, 128]⟩
abbrev S2x12x128 : Shape := ⟨3, ![2, 12, 128]⟩
abbrev S2x1x4x128 : Shape := ⟨4, ![2, 1, 4, 128]⟩
abbrev S2x4x128 : Shape := ⟨3, ![2, 4, 128]⟩
abbrev S2x16x128 : Shape := ⟨3, ![2, 16, 128]⟩
abbrev S1x4096x9728 : Shape := ⟨3, ![1, 4096, 9728]⟩
abbrev S16384x2048 : Shape := ⟨2, ![16384, 2048]⟩
abbrev S1024x4096 : Shape := ⟨2, ![1024, 4096]⟩
abbrev S1x4096x1024 : Shape := ⟨3, ![1, 4096, 1024]⟩
abbrev S1x8x128 : Shape := ⟨3, ![1, 8, 128]⟩
abbrev S8x128 : Shape := ⟨2, ![8, 128]⟩
abbrev S1024x128 : Shape := ⟨2, ![1024, 128]⟩
abbrev S1024x1024 : Shape := ⟨2, ![1024, 1024]⟩
abbrev S4096x1024 : Shape := ⟨2, ![4096, 1024]⟩
abbrev S256x4096 : Shape := ⟨2, ![256, 4096]⟩
abbrev S256x1024 : Shape := ⟨2, ![256, 1024]⟩
abbrev S256x128 : Shape := ⟨2, ![256, 128]⟩
abbrev S1x1x128 : Shape := ⟨3, ![1, 1, 128]⟩
abbrev S256 : Shape := ⟨1, ![256]⟩
abbrev S256x1 : Shape := ⟨2, ![256, 1]⟩

abbrev nBuf : Space → Nat
  | .hbm => 68
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S2x128, .f32⟩
  | .hbm, ⟨3, _⟩ => ⟨S2x128, .f32⟩
  | .hbm, ⟨4, _⟩ => ⟨S4096x64, .f32⟩
  | .hbm, ⟨5, _⟩ => ⟨S4096x64, .f32⟩
  | .hbm, ⟨6, _⟩ => ⟨S4096x64x2, .f32⟩
  | .hbm, ⟨7, _⟩ => ⟨S4096x128, .f32⟩
  | .hbm, ⟨8, _⟩ => ⟨S4096x64x2, .f32⟩
  | .hbm, ⟨9, _⟩ => ⟨S4096x128, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S_, .i1⟩
  | .hbm, ⟨27, _⟩ => ⟨S128, .i1⟩
  | .hbm, ⟨28, _⟩ => ⟨S128, .i1⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S1x128, .i1⟩
  | .hbm, ⟨37, _⟩ => ⟨S4096x128, .f32⟩
  | .hbm, ⟨38, _⟩ => ⟨S_, .f32⟩
  | .hbm, ⟨39, _⟩ => ⟨S_, .f32⟩
  | .hbm, ⟨40, _⟩ => ⟨S4096x128, .i1⟩
  | .hbm, ⟨41, _⟩ => ⟨S4096x128, .f32⟩
  | .hbm, ⟨42, _⟩ => ⟨S4096x128, .f32⟩
  | .hbm, ⟨43, _⟩ => ⟨S_, .f32⟩
  | .hbm, ⟨44, _⟩ => ⟨S_, .f32⟩
  | .hbm, ⟨45, _⟩ => ⟨S4096x128, .i1⟩
  | .hbm, ⟨46, _⟩ => ⟨S4096x128, .f32⟩
  | .hbm, ⟨47, _⟩ => ⟨S4096x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S12x128, .f32⟩
  | .hbm, ⟨56, _⟩ => ⟨S_, .f32⟩
  | .hbm, ⟨57, _⟩ => ⟨S4x128, .f32⟩
  | .hbm, ⟨58, _⟩ => ⟨S16x128, .f32⟩
  | .hbm, ⟨59, _⟩ => ⟨S2x1x128, .f32⟩
  | .hbm, ⟨60, _⟩ => ⟨S2x1x12x128, .f32⟩
  | .hbm, ⟨61, _⟩ => ⟨S2x12x128, .f32⟩
  | .hbm, ⟨62, _⟩ => ⟨S2x1x128, .f32⟩
  | .hbm, ⟨63, _⟩ => ⟨S2x1x4x128, .f32⟩
  | .hbm, ⟨64, _⟩ => ⟨S2x4x128, .f32⟩
  | .hbm, ⟨65, _⟩ => ⟨S2x16x128, .f32⟩
  | .hbm, ⟨66, _⟩ => ⟨S1x4096x9728, .bf16⟩
  | .hbm, ⟨67, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | .local _ .vmem, ⟨7, _⟩ => ⟨S8x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v10 : Ref sig .tc := ⟨.hbm, 42, rfl⟩
abbrev main_cst_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_cst_3 : Ref sig .tc := ⟨.hbm, 50, rfl⟩
abbrev main_v13 : Ref sig .tc := ⟨.hbm, 51, rfl⟩
abbrev main_v14 : Ref sig .tc := ⟨.hbm, 52, rfl⟩
abbrev main_cst_4 : Ref sig .tc := ⟨.hbm, 53, rfl⟩
abbrev main_v15 : Ref sig .tc := ⟨.hbm, 54, rfl⟩
abbrev main_v16 : Ref sig .tc := ⟨.hbm, 55, rfl⟩
abbrev main_cst_5 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.subi arg0 c8_i32_3
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.subi arg0 c8_i32_3
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.subi arg0 c8_i32_3
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixQkRefIdeal.lean ====
abbrev S16384x4096 : Shape := ⟨2, ![16384, 4096]⟩
abbrev S4096x9728 : Shape := ⟨2, ![4096, 9728]⟩
abbrev S2x128 : Shape := ⟨2, ![2, 128]⟩
abbrev S4096x64 : Shape := ⟨2, ![4096, 64]⟩
abbrev S2048x64 : Shape := ⟨2, ![2048, 64]⟩
abbrev S16384x64 : Shape := ⟨2, ![16384, 64]⟩
abbrev S16384x1x64 : Shape := ⟨3, ![16384, 1, 64]⟩
abbrev S16384x9728 : Shape := ⟨2, ![16384, 9728]⟩
abbrev S16384x1536 : Shape := ⟨2, ![16384, 1536]⟩
abbrev S16384x512 : Shape := ⟨2, ![16384, 512]⟩
abbrev S16384x2560 : Shape := ⟨2, ![16384, 2560]⟩
abbrev S1x128 : Shape := ⟨2, ![1, 128]⟩
abbrev S128 : Shape := ⟨1, ![128]⟩
abbrev S16384x12x128 : Shape := ⟨3, ![16384, 12, 128]⟩
abbrev S_ : Shape := ⟨0, ![]⟩
abbrev S16384x12 : Shape := ⟨2, ![16384, 12]⟩
abbrev S16384x12x1 : Shape := ⟨3, ![16384, 12, 1]⟩
abbrev S1x1x128 : Shape := ⟨3, ![1, 1, 128]⟩
abbrev S16384x12x64x2 : Shape := ⟨4, ![16384, 12, 64, 2]⟩
abbrev S16384x12x64x1 : Shape := ⟨4, ![16384, 12, 64, 1]⟩
abbrev S16384x12x64 : Shape := ⟨3, ![16384, 12, 64]⟩
abbrev S16384x4x128 : Shape := ⟨3, ![16384, 4, 128]⟩
abbrev S16384x4 : Shape := ⟨2, ![16384, 4]⟩
abbrev S16384x4x1 : Shape := ⟨3, ![16384, 4, 1]⟩
abbrev S16384x4x64x2 : Shape := ⟨4, ![16384, 4, 64, 2]⟩
abbrev S16384x4x64x1 : Shape := ⟨4, ![16384, 4, 64, 1]⟩
abbrev S16384x4x64 : Shape := ⟨3, ![16384, 4, 64]⟩
abbrev S16384x2048 : Shape := ⟨2, ![16384, 2048]⟩

abbrev nBuf : Space → Nat
  | .hbm => 109
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9728, .bf16⟩
  | .hbm, ⟨2, _⟩ => ⟨S2x128, .f32⟩
  | .hbm, ⟨3, _⟩ => ⟨S2x128, .f32⟩
  | .hbm, ⟨4, _⟩ => ⟨S4096x64, .f32⟩
  | .hbm, ⟨5, _⟩ => ⟨S4096x64, .f32⟩
  | .hbm, ⟨6, _⟩ => ⟨S2048x64, .f32⟩
  | .hbm, ⟨7, _⟩ => ⟨S16384x64, .f32⟩
  | .hbm, ⟨8, _⟩ => ⟨S16384x1x64, .f32⟩
  | .hbm, ⟨9, _⟩ => ⟨S2048x64, .f32⟩
  | .hbm, ⟨10, _⟩ => ⟨S16384x64, .f32⟩
  | .hbm, ⟨11, _⟩ => ⟨S16384x1x64, .f32⟩
  | .hbm, ⟨12, _⟩ => ⟨S16384x4096, .f32⟩
  | .hbm, ⟨13, _⟩ => ⟨S4096x9728, .f32⟩
  | .hbm, ⟨14, _⟩ => ⟨S16384x9728, .f32⟩
  | .hbm, ⟨15, _⟩ => ⟨S16384x1536, .f32⟩
  | .hbm, ⟨16, _⟩ => ⟨S16384x512, .f32⟩
  | .hbm, ⟨17, _⟩ => ⟨S16384x512, .f32⟩
  | .hbm, ⟨18, _⟩ => ⟨S16384x2560, .f32⟩
  | .hbm, ⟨19, _⟩ => ⟨S16384x1536, .f32⟩
  | .hbm, ⟨20, _⟩ => ⟨S16384x1536, .f32⟩
  | .hbm, ⟨21, _⟩ => ⟨S16384x1536, .f32⟩
  | .hbm, ⟨22, _⟩ => ⟨S1x128, .f32⟩
  | .hbm, ⟨23, _⟩ => ⟨S128, .f32⟩
  | .hbm, ⟨24, _⟩ => ⟨S16384x12x128, .f32⟩
  | .hbm, ⟨25, _⟩ => ⟨S16384x12x128, .f32⟩
  | .hbm, ⟨26, _⟩ => ⟨S_, .f32⟩
  | .hbm, ⟨27, _⟩ => ⟨S16384x12, .f32⟩
  | .hbm, ⟨28, _⟩ => ⟨S16384x12x1, .f32⟩
  | .hbm, ⟨29, _⟩ => ⟨S_, .f32⟩
  | .hbm, ⟨30, _⟩ => ⟨S16384x12x1, .f32⟩
  | .hbm, ⟨31, _⟩ => ⟨S16384x12x1, .f32⟩
  | .hbm, ⟨32, _⟩ => ⟨S_, .f32⟩
  | .hbm, ⟨33, _⟩ => ⟨S16384x12x1, .f32⟩
  | .hbm, ⟨34, _⟩ => ⟨S16384x12x1, .f32⟩
  | .hbm, ⟨35, _⟩ => ⟨S16384x12x1, .f32⟩
  | .hbm, ⟨36, _⟩ => ⟨S16384x12x128, .f32⟩
  | .hbm, ⟨37, _⟩ => ⟨S16384x12x128, .f32⟩
  | .hbm, ⟨38, _⟩ => ⟨S1x1x128, .f32⟩
  | .hbm, ⟨39, _⟩ => ⟨S16384x12x128, .f32⟩
  | .hbm, ⟨40, _⟩ => ⟨S16384x12x128, .f32⟩
  | .hbm, ⟨41, _⟩ => ⟨S16384x12x64x2, .f32⟩
  | .hbm, ⟨42, _⟩ => ⟨S16384x12x64x1, .f32⟩
  | .hbm, ⟨43, _⟩ => ⟨S16384x12x64, .f32⟩
  | .hbm, ⟨44, _⟩ => ⟨S16384x12x64x1, .f32⟩
  | .hbm, ⟨45, _⟩ => ⟨S16384x12x64, .f32⟩
  | .hbm, ⟨46, _⟩ => ⟨S16384x12x64, .f32⟩
  | .hbm, ⟨47, _⟩ => ⟨S16384x12x64, .f32⟩
  | .hbm, ⟨48, _⟩ => ⟨S16384x12x64, .f32⟩
  | .hbm, ⟨49, _⟩ => ⟨S16384x12x64, .f32⟩
  | .hbm, ⟨50, _⟩ => ⟨S16384x12x64, .f32⟩
  | .hbm, ⟨51, _⟩ => ⟨S16384x12x64, .f32⟩
  | .hbm, ⟨52, _⟩ => ⟨S16384x12x64, .f32⟩
  | .hbm, ⟨53, _⟩ => ⟨S16384x12x64, .f32⟩
  | .hbm, ⟨54, _⟩ => ⟨S16384x12x64, .f32⟩
  | .hbm, ⟨55, _⟩ => ⟨S16384x12x64, .f32⟩
  | .hbm, ⟨56, _⟩ => ⟨S16384x12x64x1, .f32⟩
  | .hbm, ⟨57, _⟩ => ⟨S16384x12x64x1, .f32⟩
  | .hbm, ⟨58, _⟩ => ⟨S16384x12x64x2, .f32⟩
  | .hbm, ⟨59, _⟩ => ⟨S16384x1536, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16384x1536, .f32⟩
  | .hbm, ⟨68, _⟩ => ⟨S16384x1536, .f32⟩
  | .hbm, ⟨69, _⟩ => ⟨S1x128, .f32⟩
  | .hbm, ⟨70, _⟩ => ⟨S128, .f32⟩
  | .hbm, ⟨71, _⟩ => ⟨S16384x4x128, .f32⟩
  | .hbm, ⟨72, _⟩ => ⟨S16384x4x128, .f32⟩
  | .hbm, ⟨73, _⟩ => ⟨S_, .f32⟩
  | .hbm, ⟨74, _⟩ => ⟨S16384x4, .f32⟩
  | .hbm, ⟨75, _⟩ => ⟨S16384x4x1, .f32⟩
  | .hbm, ⟨76, _⟩ => ⟨S_, .f32⟩
  | .hbm, ⟨77, _⟩ => ⟨S16384x4x1, .f32⟩
  | .hbm, ⟨78, _⟩ => ⟨S16384x4x1, .f32⟩
  | .hbm, ⟨79, _⟩ => ⟨S_, .f32⟩
  | .hbm, ⟨80, _⟩ => ⟨S16384x4x1, .f32⟩
  | .hbm, ⟨81, _⟩ => ⟨S16384x4x1, .f32⟩
  | .hbm, ⟨82, _⟩ => ⟨S16384x4x1, .f32⟩
  | .hbm, ⟨83, _⟩ => ⟨S16384x4x128, .f32⟩
  | .hbm, ⟨84, _⟩ => ⟨S16384x4x128, .f32⟩
  | .hbm, ⟨85, _⟩ => ⟨S1x1x128, .f32⟩
  | .hbm, ⟨86, _⟩ => ⟨S16384x4x128, .f32⟩
  | .hbm, ⟨87, _⟩ => ⟨S16384x4x128, .f32⟩
  | .hbm, ⟨88, _⟩ => ⟨S16384x4x64x2, .f32⟩
  | .hbm, ⟨89, _⟩ => ⟨S16384x4x64x1, .f32⟩
  | .hbm, ⟨90, _⟩ => ⟨S16384x4x64, .f32⟩
  | .hbm, ⟨91, _⟩ => ⟨S16384x4x64x1, .f32⟩
  | .hbm, ⟨92, _⟩ => ⟨S16384x4x64, .f32⟩
  | .hbm, ⟨93, _⟩ => ⟨S16384x4x64, .f32⟩
  | .hbm, ⟨94, _⟩ => ⟨S16384x4x64, .f32⟩
  | .hbm, ⟨95, _⟩ => ⟨S16384x4x64, .f32⟩
  | .hbm, ⟨96, _⟩ => ⟨S16384x4x64, .f32⟩
  | .hbm, ⟨97, _⟩ => ⟨S16384x4x64, .f32⟩
  | .hbm, ⟨98, _⟩ => ⟨S16384x4x64, .f32⟩
  | .hbm, ⟨99, _⟩ => ⟨S16384x4x64, .f32⟩
  | .hbm, ⟨100, _⟩ => ⟨S16384x4x64, .f32⟩
  | .hbm, ⟨101, _⟩ => ⟨S16384x4x64, .f32⟩
  | .hbm, ⟨102, _⟩ => ⟨S16384x4x64, .f32⟩
  | .hbm, ⟨103, _⟩ => ⟨S16384x4x64x1, .f32⟩
  | .hbm, ⟨104, _⟩ => ⟨S16384x4x64x1, .f32⟩
  | .hbm, ⟨105, _⟩ => ⟨S16384x4x64x2, .f32⟩
  | .hbm, ⟨106, _⟩ => ⟨S16384x512, .f32⟩
  | .hbm, ⟨107, _⟩ => ⟨S16384x2048, .f32⟩
  | .hbm, ⟨108, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_2 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩

abbrev nD : Nat := 1
abbrev τ : Topo := Topo.v7x

variable {F : FTy → Type} [FloatOps F]
-- ==== Proof.SoftmaxMath.lean ====
module

public import Idealize.ShloMosaic.PureOps.Ideal

/-! One row of softmax attention over the extended reals: the row divided by its sum after the product with the
values, in base two, is the row divided by its sum before the product, in base e. -/

@[expose] public section

noncomputable section

namespace Cert.SoftmaxMath

open Idealize.ShloMosaic

/-- An extended real that is neither infinity. -/
def IsReal (x : EReal) : Prop := ∃ r : ℝ, x = (r : EReal)

/-- A value whose absolute value lies below plus infinity is real. -/
theorem isReal_of_abs_lt (x : EReal) (h : max x (-x) < ⊤) : IsReal x := by
  induction x with
  | bot => simp at h
  | top => simp at h
  | coe r => exact ⟨r, rfl⟩

/-- A sum of reals, read as extended reals, is the sum. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A positive real factor goes into a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, ← ih,
      EReal.right_distrib_of_nonneg_of_ne_top (EReal.coe_nonneg.mpr hc) (EReal.coe_ne_top c)]

/-- The running maximum of finitely many reals from minus infinity is one of them, and the greatest. -/
theorem fold_max_coe {n : ℕ} (hn : 0 < n) (f : Fin n → ℝ) :
    ∃ j, Finset.univ.fold max (⊥ : EReal) (fun i => (f i : EReal)) = (f j : EReal) ∧ ∀ i, f i ≤ f j := by
  obtain ⟨j, -, hj⟩ := Finset.exists_max_image Finset.univ f ⟨⟨0, hn⟩, Finset.mem_univ _⟩
  refine ⟨j, le_antisymm ?_ ?_, fun i => hj i (Finset.mem_univ i)⟩
  · rw [Finset.fold_max_le]
    exact ⟨bot_le, fun i hi => EReal.coe_le_coe_iff.mpr (hj i hi)⟩
  · rw [Finset.le_fold_max]
    exact Or.inr ⟨j, Finset.mem_univ j, le_refl _⟩

theorem exp_coe (r : ℝ) : Ideal.exp (r : EReal) = (Real.exp r : EReal) := rfl

theorem exp2_coe (r : ℝ) : Ideal.exp2 (r : EReal) = (Real.rpow 2 r : EReal) := rfl

/-- Division by a nonzero real. -/
theorem div_coe (x : EReal) (r : ℝ) (h : r ≠ 0) : Ideal.div x (r : EReal) = x * ((r⁻¹ : ℝ) : EReal) := by
  unfold Ideal.div
  rw [if_neg (by exact_mod_cast h), EReal.coe_inv]

/-- The kernel's row: base-two exponentials less the maximum, times the values, divided by their sum afterwards. -/
def rowK {n : ℕ} (s : Fin n → EReal) (v : Fin n → EReal) : EReal :=
  (∑ j, Ideal.exp2 (s j - Finset.univ.fold max ⊥ s) * v j)
    * Ideal.div 1 (∑ j, Ideal.exp2 (s j - Finset.univ.fold max ⊥ s))

/-- The reference's row: the softmax of the scores, times the values. -/
def rowR {n : ℕ} (t : Fin n → EReal) (v : Fin n → EReal) : EReal :=
  ∑ j, Ideal.div (Ideal.exp (t j - Finset.univ.fold max ⊥ t))
    (∑ i, Ideal.exp (t i - Finset.univ.fold max ⊥ t)) * v j

/-- The two rows agree where the scores are real and the kernel's are the reference's over log 2. -/
theorem row_eq {n : ℕ} (hn : 0 < n) (t : Fin n → ℝ) (s : Fin n → EReal)
    (hs : ∀ j, s j = ((t j * (Real.log 2)⁻¹ : ℝ) : EReal)) (v : Fin n → EReal) :
    rowK s v = rowR (fun j => (t j : EReal)) v := by
  have hlog : 0 < Real.log 2 := Real.log_pos (by norm_num)
  obtain rfl : s = fun j => ((t j * (Real.log 2)⁻¹ : ℝ) : EReal) := funext hs
  obtain ⟨a, ha, ham⟩ := fold_max_coe hn (fun j => t j * (Real.log 2)⁻¹)
  obtain ⟨b, hb, hbm⟩ := fold_max_coe hn t
  have hab : t a = t b := le_antisymm (hbm a)
    (le_of_mul_le_mul_right (ham b) (inv_pos.mpr hlog))
  unfold rowK rowR
  rw [ha, hb]
  have hk : ∀ j, Ideal.exp2 (((t j * (Real.log 2)⁻¹ : ℝ) : EReal) - ((t a * (Real.log 2)⁻¹ : ℝ) : EReal))
      = ((Real.exp (t j - t b) : ℝ) : EReal) := fun j => by
    rw [← EReal.coe_sub, exp2_coe]
    congr 1
    show (2 : ℝ) ^ (_ : ℝ) = _
    rw [Real.rpow_def_of_pos (by norm_num), hab]
    congr 1
    field_simp
  have hr : ∀ j, Ideal.exp ((t j : EReal) - (t b : EReal)) = ((Real.exp (t j - t b) : ℝ) : EReal) := fun j => by
    rw [← EReal.coe_sub, exp_coe]
  simp only [hk, hr, coe_sum]
  have hW : 0 < ∑ j, Real.exp (t j - t b) :=
    Finset.sum_pos (fun j _ => Real.exp_pos _) ⟨⟨0, hn⟩, Finset.mem_univ _⟩
  generalize hw : (∑ j, Real.exp (t j - t b)) = W at hW
  simp only [div_coe _ W hW.ne']
  rw [one_mul, sum_mul_coe _ _ _ (inv_nonneg.mpr hW.le)]
  refine Finset.sum_congr rfl fun j _ => ?_
  rw [mul_right_comm]

/-- The row of the kernel against the row of the reference, from real queries and keys: the kernel's queries carry the
factor `1 / (log 2 * √128)`, the reference divides its scores by `√128`. -/
theorem attn_row {n d : ℕ} (hn : 0 < n) (q : Fin d → EReal) (k : Fin n → Fin d → EReal) (v : Fin n → EReal)
    (hq : ∀ e, IsReal (q e)) (hk : ∀ j e, IsReal (k j e)) :
    rowK (fun j => ∑ e, (q e * Ideal.div 1 (Ideal.log 2 * Ideal.sqrt 128)) * k j e) v
      = rowR (fun j => Ideal.div (∑ e, q e * k j e) (Ideal.sqrt 128)) v := by
  choose qr hq using hq
  choose kr hk using hk
  have hlog : 0 < Real.log 2 := Real.log_pos (by norm_num)
  have hsq : 0 < Real.sqrt 128 := Real.sqrt_pos.mpr (by norm_num)
  have e2 : Ideal.log 2 = ((Real.log 2 : ℝ) : EReal) := by
    show Ideal.log (((2 : ℝ)) : EReal) = _
    show (if (2 : ℝ) ≤ 0 then (⊥ : EReal) else (Real.log 2 : EReal)) = _
    rw [if_neg (by norm_num)]
  have e128 : Ideal.sqrt 128 = ((Real.sqrt 128 : ℝ) : EReal) := by
    show Ideal.sqrt (((128 : ℝ)) : EReal) = _
    show (if (128 : ℝ) < 0 then (⊥ : EReal) else (Real.sqrt 128 : EReal)) = _
    rw [if_neg (by norm_num)]
  have ht : (fun j => Ideal.div (∑ e, q e * k j e) (Ideal.sqrt 128))
      = fun j => (((∑ e, qr e * kr j e) * (Real.sqrt 128)⁻¹ : ℝ) : EReal) := funext fun j => by
    rw [e128, div_coe _ _ hsq.ne', EReal.coe_mul, ← coe_sum]
    simp only [hq, hk, EReal.coe_mul]
  rw [ht]
  refine row_eq hn (fun j => (∑ e, qr e * kr j e) * (Real.sqrt 128)⁻¹) _ (fun j => ?_) v
  rw [e2, e128, ← EReal.coe_mul, div_coe _ _ (mul_pos hlog hsq).ne', one_mul]
  simp only [hq, hk, ← EReal.coe_mul, coe_sum]
  congr 1
  rw [Finset.sum_mul, Finset.sum_mul]
  refine Finset.sum_congr rfl fun e _ => ?_
  rw [mul_inv]
  ring

end Cert.SoftmaxMath

end
-- ==== Proof.AttnTile.lean ====
module

public import proofs.«01_k».proof.Proof.Gen.AttnIdeal.Value
public import proofs.«01_k».proof.Proof.SoftmaxMath
public import Idealize.ShloMosaic.Lib.Pipeline.ValueKit
public import Idealize.ShloMosaic.Lib.Pointwise

/-! The twelve tiles of one attention block, each read at one row and one column. -/

@[expose] public section

set_option maxRecDepth 16384

noncomputable section

open Idealize.ShloMosaic Idealize.ShloMosaic.TcCoe Idealize.SL.Sem

namespace Cert.AttnIdeal.Tile

open Cert.AttnIdeal Cert.AttnIdeal.Gen Cert.SoftmaxMath

/-- A tile at row `r`, column `d`: the row's softmax in base two over its 4096 keys, times the values of column `d`. -/
def cell (k v : Vec Ideal S4096x128 .bf16) (q : Vec Ideal S256x128 .bf16) (r : Fin 256) (d : Fin 128) : EReal :=
  rowK (fun j : Fin 4096 => ∑ e : Fin 128, q (ix2 r e) * k (ix2 j e)) (fun j => v (ix2 j d))

/-- The pattern of minus infinity is the least extended real. -/
theorem neg_inf : Ideal.ofBits .f32 0xFF800000#32 = ⊥ := by simp [Ideal.ofBits, Ideal.ieee]

variable (k v : Vec Ideal S4096x128 .bf16) (q : Vec Ideal S256x128 .bf16) (r : Fin 256) (d : Fin 128)

/-- The first tile in program order. -/
theorem tile0 : k0_pay5 k v q (ix2 r d) = cell k v q r d := by
  unfold cell rowK
  rw [← neg_inf]
  pointwise [k0_pay5, k0_pay3, k0_pay4]
  all_goals rfl

/-- The second tile in program order. -/
theorem tile1 : k0_pay9 (k0_pay7 k v q) (k0_pay8 k q) (ix2 r d) = cell k v q r d := by
  unfold cell rowK
  rw [← neg_inf]
  pointwise [k0_pay9, k0_pay8, k0_pay7, k0_pay6, k0_pay3, k0_pay4]
  all_goals rfl

/-- The third tile in program order. -/
theorem tile2 : k0_pay10 (k0_pay3 k) (k0_pay4 v) q (ix2 r d) = cell k v q r d := by
  unfold cell rowK
  rw [← neg_inf]
  pointwise [k0_pay10, k0_pay3, k0_pay4]
  all_goals rfl

/-- The fourth tile in program order. -/
theorem tile3 : k0_pay11 (k0_pay3 k) (k0_pay4 v) q (ix2 r d) = cell k v q r d := by
  unfold cell rowK
  rw [← neg_inf]
  pointwise [k0_pay11, k0_pay3, k0_pay4]
  all_goals rfl

/-- The fifth tile in program order. -/
theorem tile4 : k0_pay12 (k0_pay3 k) (k0_pay4 v) q (ix2 r d) = cell k v q r d := by
  unfold cell rowK
  rw [← neg_inf]
  pointwise [k0_pay12, k0_pay3, k0_pay4]
  all_goals rfl

/-- The sixth tile in program order. -/
theorem tile5 : k0_pay13 (k0_pay3 k) (k0_pay4 v) q (ix2 r d) = cell k v q r d := by
  unfold cell rowK
  rw [← neg_inf]
  pointwise [k0_pay13, k0_pay3, k0_pay4]
  all_goals rfl

/-- The seventh tile in program order. -/
theorem tile6 : k0_pay14 (k0_pay3 k) (k0_pay4 v) q (ix2 r d) = cell k v q r d := by
  unfold cell rowK
  rw [← neg_inf]
  pointwise [k0_pay14, k0_pay3, k0_pay4]
  all_goals rfl

/-- The eighth tile in program order. -/
theorem tile7 : k0_pay15 (k0_pay3 k) (k0_pay4 v) q (ix2 r d) = cell k v q r d := by
  unfold cell rowK
  rw [← neg_inf]
  pointwise [k0_pay15, k0_pay3, k0_pay4]
  all_goals rfl

/-- The ninth tile in program order. -/
theorem tile8 : k0_pay17 (k0_pay3 k) (k0_pay4 v) (k0_pay16 q) (constant S256x4096 .f32 0x00000000#32) (ix2 r d) = cell k v q r d := by
  unfold cell rowK
  rw [← neg_inf]
  pointwise [k0_pay17, k0_pay16, k0_pay3, k0_pay4]
  all_goals rfl

/-- The tenth tile in program order. -/
theorem tile9 : k0_pay18 (k0_pay3 k) (k0_pay4 v) q (ix2 r d) = cell k v q r d := by
  unfold cell rowK
  rw [← neg_inf]
  pointwise [k0_pay18, k0_pay3, k0_pay4]
  all_goals rfl

/-- The eleventh tile in program order. -/
theorem tile10 : k0_pay1 (k0_pay4 v) (k0_pay19 (k0_pay3 k) q) (k0_pay20 (k0_pay3 k) q) (ix2 r d) = cell k v q r d := by
  unfold cell rowK
  rw [← neg_inf]
  pointwise [k0_pay1, k0_pay20, k0_pay19, k0_pay3, k0_pay4]
  all_goals rfl

/-- The last tile in program order. -/
theorem tile11 : k0_pay2 (k0_pay3 k) (k0_pay4 v) q (ix2 r d) = cell k v q r d := by
  unfold cell rowK
  rw [← neg_inf]
  pointwise [k0_pay2, k0_pay3, k0_pay4]
  all_goals rfl

end Cert.AttnIdeal.Tile

end
-- ==== Proof.AttnRefRow.lean ====
module

public import proofs.«01_k».proof.Proof.Gen.AttnRefIdeal.Read
public import proofs.«01_k».proof.Proof.SoftmaxMath
public import Idealize.ShloMosaic.Lib.Pointwise

/-! The reference's attention on the prompt rows, read at one row and one column. -/

@[expose] public section

set_option maxRecDepth 16384

noncomputable section

open Idealize.ShloMosaic Idealize.ShloMosaic.TcCoe Idealize.SL.Sem

namespace Cert.AttnRefRow

open Cert.AttnRefIdeal Cert.AttnRefIdeal.Gen Cert.AttnRefIdeal.Read Cert.SoftmaxMath

variable (q : S16384x1536.Idx → EReal) (k v : S16384x512.Idx → EReal)

/-- The pattern of minus infinity is the least extended real. -/
theorem neg_inf : Ideal.ofBits .f32 0xFF800000#32 = ⊥ := by simp [Ideal.ofBits, Ideal.ieee]

/-- The pattern of 128 is the extended real 128. -/
theorem head_dim : Ideal.ofBits .f32 0x43000000#32 = 128 := by
  have e : Ideal.ofBits .f32 0x43000000#32 = ((128 : ℝ) : EReal) := by
    simp [Ideal.ofBits, Ideal.ieee, -EReal.coe_mul]; norm_num
  rw [e]; rfl

/-- A score: a query row against a key row of its head, divided by the square root of the head dimension. -/
theorem score (b : Fin 2) (h : Fin 4) (g : Fin 3) (i j : Fin 4096) :
    val_main_v10 (F := Ideal) q k (ix5 b h g i j)
      = Ideal.div (∑ e : Fin 128,
          q (ix2 ⟨b.val * 4096 + i.val, by omega⟩ ⟨h.val * 384 + g.val * 128 + e.val, by omega⟩)
            * k (ix2 ⟨b.val * 4096 + j.val, by omega⟩ ⟨h.val * 128 + e.val, by omega⟩)) (Ideal.sqrt 128) := by
  pointwise [val_main_v10, val_main_v9, val_main_v8, val_main_cst, val_main_v7, val_main_v6, val_main_v3, val_main_v2,
    val_main_v1, val_main_v0]
  rw [head_dim]
  exact congrArg (Ideal.div · _) (Finset.sum_congr rfl fun e _ => mul_comm _ _)

/-- The greatest score of a row. -/
theorem greatest (b : Fin 2) (h : Fin 4) (g : Fin 3) (i : Fin 4096) :
    val_main_v11 (F := Ideal) q k (ix4 b h g i)
      = Finset.univ.fold max ⊥ fun x : Fin 4096 => val_main_v10 (F := Ideal) q k (ix5 b h g i x) := by
  unfold val_main_v11
  generalize val_main_v10 (F := Ideal) q k = S
  refine (Host.reduce_eq_fold_single (s := S2x4x3x4096x4096) (t := S2x4x3x4096) (u := S_) (a := 4) (α := Ideal .f32) FloatOps.maximumf S
    (val_main_cst_0 (F := Ideal)) reducesTo_S2x4x3x4096x4096_S2x4x3x4096_d4 (by decide) h_S_ (ix4 b h g i)).trans ?_
  show Finset.fold max (Ideal.ofBits .f32 0xFF800000#32) _ _ = _
  rw [neg_inf]
  refine Finset.fold_congr fun x _ => ?_
  exact congrArg S (funext fun a => Fin.ext (by match a with | ⟨0, _⟩ => rfl | ⟨1, _⟩ => rfl | ⟨2, _⟩ => rfl | ⟨3, _⟩ => rfl | ⟨4, _⟩ => rfl))

/-- A score's exponential, shifted by the greatest score of its row. -/
theorem expo (b : Fin 2) (h : Fin 4) (g : Fin 3) (i j : Fin 4096) :
    val_main_v17 (F := Ideal) q k (ix5 b h g i j)
      = Ideal.exp (val_main_v10 (F := Ideal) q k (ix5 b h g i j)
          - Finset.univ.fold max ⊥ fun x : Fin 4096 => val_main_v10 (F := Ideal) q k (ix5 b h g i x)) := by
  rw [val_main_v17_apply, val_main_v16_apply, val_main_v15_apply, val_main_v14_apply, val_main_v13_apply, val_main_v12_apply,
    val_main_cst_1_apply, ← greatest]
  show Ideal.exp (_ - max (Ideal.ofBits .f32 0xFF800000#32) (val_main_v11 (F := Ideal) q k _)) = _
  rw [neg_inf, max_eq_right bot_le]
  exact congrArg (fun u => Ideal.exp (_ - val_main_v11 (F := Ideal) q k u))
    (funext fun a => Fin.ext (by match a with | ⟨0, _⟩ => rfl | ⟨1, _⟩ => rfl | ⟨2, _⟩ => rfl | ⟨3, _⟩ => rfl))

/-- A probability: an exponential over the sum of its row. -/
theorem prob (b : Fin 2) (h : Fin 4) (g : Fin 3) (i j : Fin 4096) :
    val_main_v21 (F := Ideal) q k (ix5 b h g i j)
      = Ideal.div (val_main_v17 (F := Ideal) q k (ix5 b h g i j))
          (∑ x : Fin 4096, val_main_v17 (F := Ideal) q k (ix5 b h g i x)) := by
  generalize hS : val_main_v17 (F := Ideal) q k = S
  unfold val_main_v21 val_main_v20 val_main_v19 val_main_v18 val_main_cst_2
  rw [hS]
  pointwise

/-- The prompt's output: the probabilities of a query row times the values of its head. -/
theorem weighted (r : Fin 8192) (d : Fin 1536) :
    val_main_v24 (F := Ideal) q k v (ix2 r d)
      = ∑ x : Fin 4096, val_main_v21 (F := Ideal) q k (ix5 ⟨r.val / 4096, by omega⟩ ⟨d.val / 384, by omega⟩
          ⟨d.val / 128 % 3, by omega⟩ ⟨r.val % 4096, by omega⟩ x)
        * v (ix2 ⟨r.val / 4096 * 4096 + x.val, by omega⟩ ⟨d.val / 384 * 128 + d.val % 128, by omega⟩) := by
  generalize hS : val_main_v21 (F := Ideal) q k = S
  unfold val_main_v24 val_main_v23 val_main_v22 val_main_v5 val_main_v4
  rw [hS]
  pointwise
  exact Finset.sum_congr rfl fun x _ => mul_comm _ _

/-- A prompt row of the result is the prompt's output. -/
theorem joined (r : Fin 16384) (d : Fin 1536) (h : r.val < 8192) :
    val_main_v51 (F := Ideal) q k v (ix2 r d) = val_main_v24 (F := Ideal) q k v (ix2 ⟨r.val, h⟩ d) := by
  rw [val_main_v51_apply]
  generalize hS : val_main_v24 (F := Ideal) q k v = S
  unfold val_main_v50
  rw [hS]
  generalize val_main_v49 (F := Ideal) q k v = S'
  show concatenate S16384x1536 0 [⟨S8192x1536, S⟩, ⟨S8192x1536, S'⟩] _ (ix2 r d) = _
  rw [concatenate_pair_apply]
  have h' : ((ix2 r d : S16384x1536.Idx) 0).val < S8192x1536.size 0 := h
  refine (dif_pos h').trans ?_
  rw [Shape.Idx.norm_def]
  exact congrArg S (funext fun a => Fin.ext (by match a with | ⟨0, _⟩ => rfl | ⟨1, _⟩ => rfl))

/-- A prompt row of the result at one column: the softmax of its scores, times the values of its head. -/
theorem row (r : Fin 16384) (d : Fin 1536) (h : r.val < 8192) :
    val_main_v51 (F := Ideal) q k v (ix2 r d)
      = rowR (fun j : Fin 4096 => Ideal.div (∑ e : Fin 128,
            q (ix2 r ⟨d.val / 128 * 128 + e.val, by omega⟩)
              * k (ix2 ⟨r.val / 4096 * 4096 + j.val, by omega⟩ ⟨d.val / 384 * 128 + e.val, by omega⟩)) (Ideal.sqrt 128))
          (fun j => v (ix2 ⟨r.val / 4096 * 4096 + j.val, by omega⟩ ⟨d.val / 384 * 128 + d.val % 128, by omega⟩)) := by
  rw [joined q k v r d h, weighted]
  unfold rowR
  refine Finset.sum_congr rfl fun x _ => congrArg (· * _) ?_
  rw [prob]
  simp only [expo, score]
  have e1 : r.val / 4096 * 4096 + r.val % 4096 = r.val := by omega
  have e2 : ∀ e, d.val / 384 * 384 + d.val / 128 % 3 * 128 + e = d.val / 128 * 128 + e := fun e => by omega
  simp only [e1, e2]

end Cert.AttnRefRow

end
-- ==== Proof.AttnEntry.lean ====
module

public import proofs.«01_k».proof.Proof.AttnTile
public import proofs.«01_k».proof.Proof.AttnRefRow

/-! What one grid point of the attention reads: its block of scaled queries, its keys and its values, as elements of
the arguments. -/

@[expose] public section

set_option maxRecDepth 16384

noncomputable section

open Idealize.ShloMosaic Idealize.ShloMosaic.TcCoe Idealize.SL.Sem
open Idealize.ShloMosaic.Pipeline (Dat)

namespace Cert.AttnIdeal.Entry

open Cert.AttnIdeal Cert.AttnIdeal.Gen

variable (m : (ℓ : Loc nD τ sig) → Buf (Elt Ideal) ℓ)

/-- Every window's block index at each grid point: queries and output by row tile and head of keys, keys and values by
    sequence and head. -/
theorem idx : ∀ t : Fin cfg0.N, win0_0.index t = ![t.val / 16 * 4 + t.val % 4, t.val / 4 % 4]
    ∧ win0_1.index t = ![t.val / 16, 12 + t.val / 4 % 4] ∧ win0_2.index t = ![t.val / 16, 20 + t.val / 4 % 4]
    ∧ win0_3.index t = ![t.val / 16 * 4 + t.val % 4, t.val / 4 % 4] :=
  (by decide +kernel : ∀ t : Fin grid0.N, _)

theorem lt_points (t : Fin cfg0.N) : t.val < 32 := lt_of_lt_of_eq t.isLt N_0

/-- The pattern of 2 is the extended real 2. -/
theorem two : Ideal.ofBits .f32 0x40000000#32 = 2 := by
  have e : Ideal.ofBits .f32 0x40000000#32 = ((2 : ℝ) : EReal) := by
    simp [Ideal.ofBits, Ideal.ieee, -EReal.coe_mul]; norm_num
  rw [e]; rfl

/-- The factor of the queries. -/
def scale : EReal := Ideal.div 1 (Ideal.log 2 * Ideal.sqrt 128)

/-- The joined array's first columns are the scaled queries. -/
theorem entryQ (c : Dev nD) (r : Fin 16384) (j : Fin 1536) :
    V m c main_v7 (ix2 r ⟨j.val, by omega⟩) = (show EReal from m ((c : Thread nD τ).loc main_arg0) (ix2 r j)) * scale := by
  unfold scale
  rw [← two, ← Cert.AttnRefRow.head_dim]
  simp only [V, hostOps0, hostOps0_1, hostOps0_2, List.flatten_cons, List.flatten_nil, List.append_nil, List.cons_append, List.nil_append]
  after_results
  pointwise

/-- The joined array's last columns are the keys. -/
theorem entryK (c : Dev nD) (r : Fin 16384) (j : Fin 512) :
    V m c main_v7 (ix2 r ⟨1536 + j.val, by omega⟩) = m ((c : Thread nD τ).loc main_arg1) (ix2 r j) := by
  simp only [V, hostOps0, hostOps0_1, hostOps0_2, List.flatten_cons, List.flatten_nil, List.append_nil, List.cons_append, List.nil_append]
  after_results
  pointwise

/-- The padded array's columns from 2560 on are the values. -/
theorem entryV (c : Dev nD) (r : Fin 16384) (j : Fin 512) :
    V m c main_v9 (ix2 r ⟨2560 + j.val, by omega⟩) = m ((c : Thread nD τ).loc main_arg2) (ix2 r j) := by
  simp only [V, hostOps0, hostOps0_1, hostOps0_2, List.flatten_cons, List.flatten_nil, List.append_nil, List.cons_append, List.nil_append]
  after_results
  show truncf .bf16 (pad S16384x4608 ![0, 2560] ![0, 1536] ![0, 0] (m ((c : Thread nD τ).loc main_arg2))
    (sitofp (F := Ideal) .f32 (constantI S_ 32 0#32)) pads_S16384x512_S16384x4608_000_256015360 h_S_) bitsLt_bf16_f32
    (ix2 r ⟨2560 + j.val, by omega⟩) = _
  pointwise
  refine dif_pos fun a => ?_
  match a with
  | ⟨0, _⟩ => show 0 ≤ r.val ∧ (r.val - 0) % (0 + 1) = 0 ∧ (r.val - 0) / (0 + 1) < 16384; omega
  | ⟨1, _⟩ => show 2560 ≤ 2560 + j.val ∧ (2560 + j.val - 2560) % (0 + 1) = 0 ∧ (2560 + j.val - 2560) / (0 + 1) < 512; omega

/-- A grid point's queries. -/
theorem readQ (c : Dev nD) (t : Fin cfg0.N) (i : Fin 1024) (j : Fin 384) :
    X0_0 m c t (ix2 i j) = V m c main_v7 (ix2 ⟨(t.val / 16 * 4 + t.val % 4) * 1024 + i.val, by have := lt_points t; omega⟩
      ⟨t.val / 4 % 4 * 384 + j.val, by omega⟩) := by
  unfold X0_0 Pipeline.Window.fill
  rw [dif_pos (moved0_0 t _)]
  blk_simp [iblk, idx t]
  blk_ext [idx t]

/-- A grid point's keys. -/
theorem readK (c : Dev nD) (t : Fin cfg0.N) (i : Fin 4096) (j : Fin 128) :
    iblk m c 1 t (ix2 i j) = V m c main_v7 (ix2 ⟨t.val / 16 * 4096 + i.val, by have := lt_points t; omega⟩
      ⟨(12 + t.val / 4 % 4) * 128 + j.val, by omega⟩) := by
  blk_simp [iblk, idx t]
  blk_ext [idx t]

/-- A grid point's values. -/
theorem readV (c : Dev nD) (t : Fin cfg0.N) (i : Fin 4096) (j : Fin 128) :
    iblk m c 2 t (ix2 i j) = V m c main_v9 (ix2 ⟨t.val / 16 * 4096 + i.val, by have := lt_points t; omega⟩
      ⟨(20 + t.val / 4 % 4) * 128 + j.val, by omega⟩) := by
  blk_simp [iblk, idx t]
  blk_ext [idx t]

end Cert.AttnIdeal.Entry

end
-- ==== Proof.AttnValue.lean ====
module

public import proofs.«01_k».proof.Proof.AttnEntry

/-! The attention's result array on the prompt rows is the reference's, from finite queries and keys. -/

@[expose] public section

set_option maxRecDepth 16384

noncomputable section

open Idealize.ShloMosaic Idealize.ShloMosaic.TcCoe Idealize.SL.Sem
open Idealize.ShloMosaic.Pipeline (Dat)

namespace Cert.AttnIdeal.Final

open Cert.AttnIdeal Cert.AttnIdeal.Gen Cert.AttnIdeal.Entry Cert.AttnIdeal.Tile Cert.SoftmaxMath
open Cert.AttnRefIdeal.Read

variable (m : (ℓ : Loc nD τ sig) → Buf (Elt Ideal) ℓ)

/-- An element of a tile of a grid point, from real queries and keys, is the reference's element at the array index. -/
theorem core (c : Dev nD)
    (hq : ∀ i : S16384x1536.Idx, IsReal (m ((c : Thread nD τ).loc main_arg0) i))
    (hk : ∀ i : S16384x512.Idx, IsReal (m ((c : Thread nD τ).loc main_arg1) i))
    (t : Fin cfg0.N) (o g : ℕ) (ho : o ≤ 768) (hg : g < 3) (Q : Vec Ideal S256x128 .bf16)
    (hQ : ∀ (r : Fin 256) (e : Fin 128), Q (ix2 r e) = X0_0 m c t (ix2 ⟨o + r.val, by omega⟩ ⟨g * 128 + e.val, by omega⟩))
    (r : Fin 256) (d : Fin 128) (J : S16384x1536.Idx)
    (hJ0 : (J 0 : ℕ) = (t.val / 16 * 4 + t.val % 4) * 1024 + (o + r.val)) (hJ1 : (J 1 : ℕ) = t.val / 4 % 4 * 384 + (g * 128 + d.val)) :
    cell (iblk m c 1 t) (iblk m c 2 t) Q r d
      = val_main_v51 (F := Ideal) (m ((c : Thread nD τ).loc main_arg0)) (m ((c : Thread nD τ).loc main_arg1))
          (m ((c : Thread nD τ).loc main_arg2)) J := by
  have ht := lt_points t
  obtain ⟨R, hR⟩ : ∃ R : Fin 16384, R = J 0 := ⟨_, rfl⟩
  obtain ⟨C, hC⟩ : ∃ C : Fin 1536, C = J 1 := ⟨_, rfl⟩
  have hJ : J = ix2 R C := by rw [hR, hC]; funext a; match a with | ⟨0, _⟩ => rfl | ⟨1, _⟩ => rfl
  have hR' : R.val = (t.val / 16 * 4 + t.val % 4) * 1024 + (o + r.val) := by rw [hR]; exact hJ0
  have hC' : C.val = t.val / 4 % 4 * 384 + (g * 128 + d.val) := by rw [hC]; exact hJ1
  rw [hJ, Cert.AttnRefRow.row _ _ _ R C (by omega), ← attn_row (by norm_num) _ _ _ (fun e => hq _) (fun j e => hk _)]
  unfold cell
  have eQ : ∀ e : Fin 128, Q (ix2 r e) = (show EReal from m ((c : Thread nD τ).loc main_arg0) (ix2 R ⟨C.val / 128 * 128 + e.val, by omega⟩)) * scale := fun e => by
    refine (hQ r e).trans ((readQ m c t _ _).trans (Eq.trans ?_ (entryQ m c _ _)))
    exact congrArg (V m c main_v7) (congrArg₂ ix2 (Fin.ext (by dsimp only; omega)) (Fin.ext (by dsimp only; omega)))
  have eK : ∀ (j : Fin 4096) (e : Fin 128), iblk m c 1 t (ix2 j e)
      = m ((c : Thread nD τ).loc main_arg1) (ix2 ⟨R.val / 4096 * 4096 + j.val, by omega⟩ ⟨C.val / 384 * 128 + e.val, by omega⟩) := fun j e => by
    refine (readK m c t j e).trans (Eq.trans ?_ (entryK m c _ _))
    exact congrArg (V m c main_v7) (congrArg₂ ix2 (Fin.ext (by dsimp only; omega))
      (Fin.ext (by dsimp only; omega)))
  have eV : ∀ j : Fin 4096, iblk m c 2 t (ix2 j d)
      = m ((c : Thread nD τ).loc main_arg2) (ix2 ⟨R.val / 4096 * 4096 + j.val, by omega⟩ ⟨C.val / 384 * 128 + C.val % 128, by omega⟩) := fun j => by
    refine (readV m c t j d).trans (Eq.trans ?_ (entryV m c _ _))
    exact congrArg (V m c main_v9) (congrArg₂ ix2 (Fin.ext (by dsimp only; omega))
      (Fin.ext (by dsimp only; omega)))
  simp only [eQ, eK, eV]
  rfl

/-- An index of a tile by its two coordinates. -/
theorem eta (x : S256x128.Idx) : x = ix2 (x 0) (x 1) := by
  funext a; match a with | ⟨0, _⟩ => rfl | ⟨1, _⟩ => rfl

/-- The result array after the run: the reference's rows of the prompt, and below them what the array held before. -/
theorem final (c : Dev nD)
    (hq : ∀ i : S16384x1536.Idx, IsReal (m ((c : Thread nD τ).loc main_arg0) i))
    (hk : ∀ i : S16384x512.Idx, IsReal (m ((c : Thread nD τ).loc main_arg1) i)) :
    (dats m 0 c).arrAt 3 (cfgs 0).N = fun i => if (i 0 : ℕ) < 8192 then
      val_main_v51 (F := Ideal) (m ((c : Thread nD τ).loc main_arg0)) (m ((c : Thread nD τ).loc main_arg1))
          (m ((c : Thread nD τ).loc main_arg2)) i else V m c main_v10 i := by
  refine (dats m 0 c).arrAt_eq_of_coversWhere 3 _ (fun β => β 0 < 8) (by decide +kernel) (fun t hf y => ?_)
    (fun j => by blk_simp [Pipeline.Window.cell_apply]; omega)
  blk_simp
  rw [after0_3]
  unfold outsAt0
  frame_out
  canon_tiles x h
  · rw [eta x]
    refine (tile11 _ _ _ (x 0) (x 1)).trans ?_
    exact core m c hq hk t 768 2 (by decide) (by decide) _ (fun r e => by pointwise; blk_ext) (x 0) (x 1) _
      (by blk_simp [idx t]; omega) (by blk_simp [idx t]; omega)
  · rw [eta x]
    refine (tile10 _ _ _ (x 0) (x 1)).trans ?_
    exact core m c hq hk t 768 1 (by decide) (by decide) _ (fun r e => by pointwise; blk_ext) (x 0) (x 1) _
      (by blk_simp [idx t]; omega) (by blk_simp [idx t]; omega)
  · rw [eta x]
    refine (tile9 _ _ _ (x 0) (x 1)).trans ?_
    exact core m c hq hk t 768 0 (by decide) (by decide) _ (fun r e => by pointwise; blk_ext) (x 0) (x 1) _
      (by blk_simp [idx t]; omega) (by blk_simp [idx t]; omega)
  · rw [eta x]
    refine (tile8 _ _ _ (x 0) (x 1)).trans ?_
    exact core m c hq hk t 512 2 (by decide) (by decide) _ (fun r e => by pointwise; blk_ext) (x 0) (x 1) _
      (by blk_simp [idx t]; omega) (by blk_simp [idx t]; omega)
  · rw [eta x]
    refine (tile7 _ _ _ (x 0) (x 1)).trans ?_
    exact core m c hq hk t 512 1 (by decide) (by decide) _ (fun r e => by pointwise; blk_ext) (x 0) (x 1) _
      (by blk_simp [idx t]; omega) (by blk_simp [idx t]; omega)
  · rw [eta x]
    refine (tile6 _ _ _ (x 0) (x 1)).trans ?_
    exact core m c hq hk t 512 0 (by decide) (by decide) _ (fun r e => by pointwise; blk_ext) (x 0) (x 1) _
      (by blk_simp [idx t]; omega) (by blk_simp [idx t]; omega)
  · rw [eta x]
    refine (tile5 _ _ _ (x 0) (x 1)).trans ?_
    exact core m c hq hk t 256 2 (by decide) (by decide) _ (fun r e => by pointwise; blk_ext) (x 0) (x 1) _
      (by blk_simp [idx t]; omega) (by blk_simp [idx t]; omega)
  · rw [eta x]
    refine (tile4 _ _ _ (x 0) (x 1)).trans ?_
    exact core m c hq hk t 256 1 (by decide) (by decide) _ (fun r e => by pointwise; blk_ext) (x 0) (x 1) _
      (by blk_simp [idx t]; omega) (by blk_simp [idx t]; omega)
  · rw [eta x]
    refine (tile3 _ _ _ (x 0) (x 1)).trans ?_
    exact core m c hq hk t 256 0 (by decide) (by decide) _ (fun r e => by pointwise; blk_ext) (x 0) (x 1) _
      (by blk_simp [idx t]; omega) (by blk_simp [idx t]; omega)
  · rw [eta x]
    refine (tile2 _ _ _ (x 0) (x 1)).trans ?_
    exact core m c hq hk t 0 2 (by decide) (by decide) _ (fun r e => by pointwise; blk_ext) (x 0) (x 1) _
      (by blk_simp [idx t]; omega) (by blk_simp [idx t]; omega)
  · rw [eta x]
    refine (tile1 _ _ _ (x 0) (x 1)).trans ?_
    exact core m c hq hk t 0 1 (by decide) (by decide) _ (fun r e => by pointwise; blk_ext) (x 0) (x 1) _
      (by blk_simp [idx t]; omega) (by blk_simp [idx t]; omega)
  · rw [eta x]
    refine (tile0 _ _ _ (x 0) (x 1)).trans ?_
    exact core m c hq hk t 0 0 (by decide) (by decide) _ (fun r e => by pointwise; blk_ext) (x 0) (x 1) _
      (by blk_simp [idx t]; omega) (by blk_simp [idx t]; omega)

end Cert.AttnIdeal.Final

end
-- ==== Proof.AttnFacts.lean ====
module

public import proofs.«01_k».proof.Proof.AttnValue
public import proofs.«01_k».proof.Proof.Gen.Pre_finite_qk
public import proofs.«01_k».proof.Proof.Gen.On_prompt_rows
public import Idealize.ShloMosaic.Lib.ReduceAll
public import Idealize.ShloMosaic.Lib.WordCmp

/-! What the attention's precondition and its mask of rows say, in plain terms. -/

@[expose] public section

noncomputable section

open Idealize.ShloMosaic Cert.SoftmaxMath

namespace Cert.AttnIdeal.Facts

/-- A conjunction of two one-bit words that is one has both words one. -/
theorem both (a b : BitVec 1) (h : a &&& b = 1#1) : a = 1#1 ∧ b = 1#1 := by
  revert a b; decide

/-- Where the precondition holds, every query is a real number. -/
theorem real_q (q : FVec Ideal Cert.Pre_finite_qk.S16384x1536 .f32)
    (k v : FVec Ideal Cert.Pre_finite_qk.S16384x512 .f32)
    (h : Cert.Pre_finite_qk.fn (F := Ideal) q k v = fun _ => 1#1) (i) : IsReal (q i) := by
  have h1 := (both _ _ (congrFun h (fun a => a.elim0))).1
  have h2 := Host.reduce_andi_all _ _ _ _ _ h1 i
  have h3 := (WordCmp.ofBool_decide_eq_one_iff _).1 h2
  refine isReal_of_abs_lt _ (lt_of_lt_of_le h3 le_top)

/-- Where the precondition holds, every key is a real number. -/
theorem real_k (q : FVec Ideal Cert.Pre_finite_qk.S16384x1536 .f32)
    (k v : FVec Ideal Cert.Pre_finite_qk.S16384x512 .f32)
    (h : Cert.Pre_finite_qk.fn (F := Ideal) q k v = fun _ => 1#1) (i) : IsReal (k i) := by
  have h1 := (both _ _ (congrFun h (fun a => a.elim0))).2
  have h2 := Host.reduce_andi_all _ _ _ _ _ h1 i
  have h3 := (WordCmp.ofBool_decide_eq_one_iff _).1 h2
  refine isReal_of_abs_lt _ (lt_of_lt_of_le h3 le_top)

/-- The mask of rows is one exactly on rows of the prompt. -/
theorem below (q : FVec Ideal Cert.On_prompt_rows.S16384x1536 .f32)
    (k v : FVec Ideal Cert.On_prompt_rows.S16384x512 .f32) (i)
    (h : Cert.On_prompt_rows.fn (F := Ideal) q k v i = 1#1) : (i 0 : ℕ) < 8192 := by
  have h1 : IntOp.cmpi .slt (BitVec.ofNat 32 (i 0 : ℕ)) (BitVec.ofNat 32 8192) = 1#1 := h
  have h0 : (i 0 : ℕ) < 16384 := (i 0).isLt
  rw [WordCmp.cmpi_slt_ofNat (by omega) (by decide)] at h1
  exact (WordCmp.ofBool_decide_eq_one_iff _).1 h1

end Cert.AttnIdeal.Facts

end
-- ==== Proof.SwigluValue.lean ====
module

public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwigluIdeal.Final

open Cert.SwigluIdeal Cert.SwigluIdeal.Gen
open Cert.SwigluRefIdeal.Read

variable (m : (ℓ : Loc nD τ sig) → Buf (Elt Ideal) ℓ)

/-- Every window's block index at each grid point: rows by row tile, the gate and the linear half of the weights by
    column tile, the cast of the output weights by slice. -/
theorem idx : ∀ t : Fin cfg0.N, win0_0.index t = ![t.val / 43, 0] ∧ win0_1.index t = ![0, 0, t.val % 43]
    ∧ win0_2.index t = ![0, 0, 43 + t.val % 43] ∧ win0_3.index t = ![0, t.val, 0]
    ∧ win0_4.index t = ![t.val / 43, t.val % 43] ∧ win0_5.index t = ![t.val, 0] :=
  (by decide +kernel : ∀ t : Fin grid0.N, _)

/-- The upper half of a row tile: `silu(gate) * up` at the array index it sits at. -/
theorem pointTop (c : Dev nD) (t : Fin cfg0.N) (x : S1024x256.Idx) (j : Cert.SwigluRefIdeal.S16384x11008.Idx)
    (h0 : (j 0 : ℕ) = t.val / 43 * 2048 + x 0) (h1 : (j 1 : ℕ) = t.val % 43 * 256 + x 1) :
    k0_pay4 (iblk m c 1 t) (iblk m c 2 t) (View.ld (iblk m c 0 t) r0_1) x
      = val_main_v8 (F := Ideal) (m ((c : Thread nD τ).loc main_arg0)) (m ((c : Thread nD τ).loc main_arg1)) j := by
  pointwise [k0_pay2, k0_pay3, k0_pay4, val_main_v0, val_main_v1, val_main_v2, val_main_v3, val_main_v4, val_main_v5, val_main_call0_v0, val_main_call0_v1, val_main_call0_cst, val_main_call0_v2, val_main_call0_v3, val_main_call0_cst_0, val_main_call0_v4, val_main_call0_v5, val_main_v6, val_main_v7, val_main_v8, val_main_v9, val_main_v10, val_main_v11]
  simp only [zero_sub]
  blk_point [iblk, V, idx t]

/-- The lower half of a row tile: `silu(gate) * up` at the array index it sits at. -/
theorem pointBot (c : Dev nD) (t : Fin cfg0.N) (x : S1024x256.Idx) (j : Cert.SwigluRefIdeal.S16384x11008.Idx)
    (h0 : (j 0 : ℕ) = t.val / 43 * 2048 + 1024 + x 0) (h1 : (j 1 : ℕ) = t.val % 43 * 256 + x 1) :
    k0_pay5 (iblk m c 1 t) (iblk m c 2 t) (View.ld (iblk m c 0 t) r0_3) x
      = val_main_v8 (F := Ideal) (m ((c : Thread nD τ).loc main_arg0)) (m ((c : Thread nD τ).loc main_arg1)) j := by
  pointwise [k0_pay2, k0_pay3, k0_pay5, val_main_v0, val_main_v1, val_main_v2, val_main_v3, val_main_v4, val_main_v5, val_main_call0_v0, val_main_call0_v1, val_main_call0_cst, val_main_call0_v2, val_main_call0_v3, val_main_call0_cst_0, val_main_call0_v4, val_main_call0_v5, val_main_v6, val_main_v7, val_main_v8, val_main_v9, val_main_v10, val_main_v11]
  simp only [zero_sub]
  blk_point [iblk, V, idx t]

/-- A grid point's slice of the output weights is the same slice of layer 0's output weights. -/
theorem pointOut (c : Dev nD) (t : Fin cfg0.N) (y) : k0_pay1 (iblk m c 3 t) y
    = val_main_v11 (F := Ideal) (m ((c : Thread nD τ).loc main_arg2)) (((cfg0.win 5).blk t).view.emb y) := by
  pointwise [k0_pay1, val_main_v0, val_main_v1, val_main_v2, val_main_v3, val_main_v4, val_main_v5, val_main_call0_v0, val_main_call0_v1, val_main_call0_cst, val_main_call0_v2, val_main_call0_v3, val_main_call0_cst_0, val_main_call0_v4, val_main_call0_v5, val_main_v6, val_main_v7, val_main_v8, val_main_v9, val_main_v10, val_main_v11]
  blk_point [iblk, V, idx t]

/-- The activations after the run are the reference's. -/
theorem final (c : Dev nD) : (dats m 0 c).arrAt 4 (cfgs 0).N = val_main_v8 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  canon_tiles x h
  · refine pointBot m c t x _ ?_ ?_ <;> (blk_simp [idx t]; omega)
  · refine pointTop m c t x _ ?_ ?_ <;> (blk_simp [idx t]; omega)

/-- The output weights after the run are the reference's. -/
theorem finalOut (c : Dev nD) : (dats m 0 c).arrAt 5 (cfgs 0).N = val_main_v11 (F := Ideal) (m ((c : Thread nD τ).loc main_arg2)) := by
  refine (dats m 0 c).arrAt_eq_of_covers 5 _ (by decide +kernel) fun t _ y => ?_
  blk_simp
  rw [after0_5]; frame_out
  exact pointOut m c t y

end Cert.SwigluIdeal.Final

end
-- ==== Proof.FfnOutValue.lean ====
module

public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutIdeal.Final

open Cert.FfnOutIdeal Cert.FfnOutIdeal.Gen
open Cert.FfnOutRefIdeal.Read

variable (m : (ℓ : Loc nD τ sig) → Buf (Elt Ideal) ℓ)

/-- Every window's block index at each grid point: activations by row tile, weights by column tile, the two casts
    by slice. -/
theorem idx : ∀ t : Fin cfg0.N, win0_0.index t = ![t.val / 8, 0] ∧ win0_1.index t = ![0, 0, t.val % 8]
    ∧ win0_2.index t = ![0, t.val, 0] ∧ win0_3.index t = ![0, t.val, 0]
    ∧ win0_4.index t = ![t.val / 8, t.val % 8] ∧ win0_5.index t = ![t.val, 0] ∧ win0_6.index t = ![t.val, 0] :=
  (by decide +kernel : ∀ t : Fin grid0.N, _)

/-- A grid point's product block is the reference's product at the array index. -/
theorem point (c : Dev nD) (t : Fin cfg0.N) (y) : k0_pay1 (iblk m c 0 t) (iblk m c 1 t) y
    = val_main_v3 (F := Ideal) (m ((c : Thread nD τ).loc main_arg0)) (m ((c : Thread nD τ).loc main_arg1)) (((cfg0.win 4).blk t).view.emb y) := by
  pointwise [k0_pay1, val_main_v0, val_main_v1, val_main_v2, val_main_v3, val_main_v4, val_main_v5, val_main_v6, val_main_v7, val_main_v8, val_main_v9]
  blk_point [iblk, V, idx t]

/-- A grid point's slice of the gate weights is the same slice of layer 0's gate weights. -/
theorem pointGate (c : Dev nD) (t : Fin cfg0.N) (y) : k0_pay2 (iblk m c 2 t) y
    = val_main_v6 (F := Ideal) (m ((c : Thread nD τ).loc main_arg2)) (((cfg0.win 5).blk t).view.emb y) := by
  pointwise [k0_pay2, val_main_v0, val_main_v1, val_main_v2, val_main_v3, val_main_v4, val_main_v5, val_main_v6, val_main_v7, val_main_v8, val_main_v9]
  blk_point [iblk, V, idx t]

/-- A grid point's slice of the mixer's weights is the same slice of layer 0's mixer weights. -/
theorem pointMix (c : Dev nD) (t : Fin cfg0.N) (y) : k0_pay3 (iblk m c 3 t) y
    = val_main_v9 (F := Ideal) (m ((c : Thread nD τ).loc main_arg3)) (((cfg0.win 6).blk t).view.emb y) := by
  pointwise [k0_pay3, val_main_v0, val_main_v1, val_main_v2, val_main_v3, val_main_v4, val_main_v5, val_main_v6, val_main_v7, val_main_v8, val_main_v9]
  blk_point [iblk, V, idx t]

/-- The product array after the run is the reference's product. -/
theorem final (c : Dev nD) : (dats m 0 c).arrAt 4 (cfgs 0).N = val_main_v3 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  exact point m c t y

/-- The gate weights after the run are the reference's. -/
theorem finalGate (c : Dev nD) : (dats m 0 c).arrAt 5 (cfgs 0).N = val_main_v6 (F := Ideal) (m ((c : Thread nD τ).loc main_arg2)) := by
  refine (dats m 0 c).arrAt_eq_of_covers 5 _ (by decide +kernel) fun t _ y => ?_
  blk_simp
  rw [after0_5]; frame_out
  exact pointGate m c t y

/-- The mixer weights after the run are the reference's. -/
theorem finalMix (c : Dev nD) : (dats m 0 c).arrAt 6 (cfgs 0).N = val_main_v9 (F := Ideal) (m ((c : Thread nD τ).loc main_arg3)) := by
  refine (dats m 0 c).arrAt_eq_of_covers 6 _ (by decide +kernel) fun t _ y => ?_
  blk_simp
  rw [after0_6]; frame_out
  exact pointMix m c t y

end Cert.FfnOutIdeal.Final

end
-- ==== Proof.MergeValue.lean ====
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen
open Cert.MergeRefIdeal.Read

variable (m : (ℓ : Loc nD τ sig) → Buf (Elt Ideal) ℓ)

/-- Every window's block index at each grid point: the branches by row tile, weights and biases by column tile, the
    three gates a third of the gate weights apart. -/
theorem idx : ∀ t : Fin cfg0.N, win0_0.index t = ![t.val / 16, 0] ∧ win0_1.index t = ![t.val / 16, 0]
    ∧ win0_2.index t = ![t.val / 16, 0] ∧ win0_3.index t = ![t.val / 16, 0]
    ∧ win0_4.index t = ![0, 0, t.val % 16] ∧ win0_5.index t = ![0, 0, 16 + t.val % 16] ∧ win0_6.index t = ![0, 0, 32 + t.val % 16]
    ∧ win0_7.index t = ![0, 0, t.val % 16] ∧ win0_8.index t = ![0, 0, 16 + t.val % 16] ∧ win0_9.index t = ![0, 0, 32 + t.val % 16]
    ∧ win0_10.index t = ![0, 0, t.val % 16] ∧ win0_11.index t = ![0, 0, t.val % 16] ∧ win0_12.index t = ![0, 0, t.val % 16]
    ∧ win0_13.index t = ![t.val / 16, t.val % 16] :=
  (by decide +kernel : ∀ t : Fin grid0.N, _)

/-- What a grid point stores is the reference's gated sum at the array index. -/
theorem point (c : Dev nD) (t : Fin cfg0.N) (y) :
    k0_pay1 (iblk m c 0 t) (k0_pay2 (iblk m c 0 t) (iblk m c 4 t) (iblk m c 7 t) (iblk m c 1 t) (iblk m c 10 t))
        (k0_pay3 (iblk m c 0 t) (iblk m c 5 t) (iblk m c 8 t)) (k0_pay4 (F := Ideal)) (iblk m c 2 t) (iblk m c 11 t) (iblk m c 6 t)
        (iblk m c 9 t) (iblk m c 3 t) (iblk m c 12 t) y
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 13).blk t).view.emb y) := by
  pointwise [k0_pay1, k0_pay2, k0_pay3, k0_pay4, val_main_v0, val_main_v1, val_main_v2, val_main_v3, val_main_v4, val_main_v5, val_main_v6, val_main_v7, val_main_v8, val_main_v9, val_main_cst, val_main_v10, val_main_v11, val_main_cst_0, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  simp only [zero_sub]
  blk_point [iblk, V, idx t]

/-- The merged array after the run is the reference's. -/
theorem final (c : Dev nD) : (dats m 0 c).arrAt 13 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]; frame_out
  exact point m c t y

end Cert.MergeIdeal.Final

end
-- ==== Proof.MixOutValue.lean ====
module

public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Final

open Cert.MixOutIdeal Cert.MixOutIdeal.Gen

variable (m : (ℓ : Loc nD τ sig) → Buf (Elt Ideal) ℓ)

/-- The mixer's output projection as the reference computes it: the merged rows times layer 0's weights. -/
abbrev REF (X : FVec Ideal Cert.MixOutRefIdeal.S16384x4096 .bf16) (W : FVec Ideal Cert.MixOutRefIdeal.S2x4096x4096 .bf16) :
    FVec Ideal Cert.MixOutRefIdeal.S16384x4096 .bf16 :=
  truncf .bf16 (Host.dotGeneral Cert.MixOutRefIdeal.dot_S16384x4096_S4096x4096_S16384x4096_1_0_0_1_n_n none (extf .f32 X Cert.MixOutRefIdeal.Gen.bitsLt_bf16_f32)
    (extf .f32 (shapeCast _ (extractStridedSlice Cert.MixOutRefIdeal.S1x4096x4096 ![0, 0, 0] W Cert.MixOutRefIdeal.Gen.slices_S2x4096x4096_S1x4096x4096_0_0_0)
      Cert.MixOutRefIdeal.Gen.shapeCasts_S1x4096x4096_S4096x4096) Cert.MixOutRefIdeal.Gen.bitsLt_bf16_f32)) Cert.MixOutRefIdeal.Gen.bitsLt_bf16_f32

/-- Every window's block index at each grid point: rows by tile, columns by tile. -/
theorem idx : ∀ t : Fin cfg0.N, win0_0.index t = ![t.val / 4, 0] ∧ win0_1.index t = ![0, 0, t.val % 4]
    ∧ win0_2.index t = ![t.val / 4, t.val % 4] :=
  (by decide +kernel : ∀ t : Fin grid0.N, _)

/-- What a grid point stores at a block index is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixOutIdeal.Final

end
-- ==== Proof.MixNatValue.lean ====
module

public import proofs.«01_k».proof.Proof.Gen.MixNatIdeal.Value
public import proofs.«01_k».proof.Proof.Gen.MixNatRefIdeal.Run
public import proofs.«01_k».proof.Proof.Gen.MixNatRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixNatIdeal.Final

open Cert.MixNatIdeal Cert.MixNatIdeal.Gen
open Cert.MixNatRefIdeal.Read

variable (m : (ℓ : Loc nD τ sig) → Buf (Elt Ideal) ℓ)

/-- Every window's block index at each grid point: rows by tile, and the tile of the mixer's columns that each of the
    nine column tiles of the result comes from. -/
theorem idx : ∀ t : Fin cfg0.N, win0_0.index t = ![t.val / 9, 0] ∧ win0_1.index t = ![0, 0, if t.val % 9 < 5 then 5 + t.val % 9 else if t.val % 9 = 5 then 4 else 3 * (t.val % 9) - 8]
    ∧ win0_2.index t = ![t.val / 9, t.val % 9] :=
  (by decide +kernel : ∀ t : Fin grid0.N, _)

/-- What a grid point stores at a block index is the reference's entry at the array index it sits at. -/
theorem point (c : Dev nD) (t : Fin cfg0.N) (y) : k0_pay1 (iblk m c 0 t) (iblk m c 1 t) y
    = val_main_v14 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14]
  obtain ⟨i0, i1, i2⟩ := idx t
  have e1 : ((((View.whole main_v1).slice ((win0 2).rect t)).emb y 1 : Fin _) : ℕ) = t.val % 9 * 512 + (y 1 : ℕ) := by
    blk_simp [i2]
  have b1 : (y 1 : ℕ) < 512 := (y 1).isLt
  have b9 : t.val % 9 < 9 := Nat.mod_lt _ (by decide)
  by_cases h1 : t.val % 9 < 5
  · rw [if_pos (by omega)] at i1
    rw [dif_pos (by omega)]
    blk_point [iblk, V, i0, i1, i2]
  · rw [if_neg (by omega)] at i1
    rw [dif_neg (by omega)]
    by_cases h2 : t.val % 9 = 5
    · rw [if_pos (by omega)] at i1
      rw [dif_pos (by omega)]
      blk_point [iblk, V, i0, i1, i2]
    · rw [if_neg (by omega)] at i1
      rw [dif_neg (by omega)]
      by_cases h3 : t.val % 9 = 6
      · rw [dif_pos (by omega)]
        blk_point [iblk, V, i0, i1, i2]
      · rw [dif_neg (by omega)]
        by_cases h4 : t.val % 9 = 7
        · rw [dif_pos (by omega)]
          blk_point [iblk, V, i0, i1, i2]
        · rw [dif_neg (by omega)]
          have h5 : t.val % 9 = 8 := by omega
          blk_point [iblk, V, i0, i1, i2]

/-- The result array after the run is the reference's. -/
theorem final (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixNatIdeal.Final

end
-- ==== Proof.ResidLastIdealRun.lean ====
/-
  The frame of the last residual step, its ideal program. The grid's first 32 points store the prompt's rows into window 3, the last 32 the
  samples' rows into window 4. Window 3's block index stays at 31 through the second half, so what point 31 stored
  rests in its buffer, untouched, until the last point writes it back: `held` below.
-/
module

public import proofs.«01_k».proof.Proof.Gen.ResidLastIdeal.Launch
public import proofs.«01_k».proof.Proof.Gen.ResidLastIdeal.Points
public import proofs.«01_k».proof.Proof.Gen.ResidLastIdeal.Skeleton
public import proofs.«01_k».proof.Proof.Gen.ResidLastIdeal.Frame
public import Idealize.ShloMosaic.Lib.Pipeline.TableIdle
public import Idealize.ShloMosaic.Lib.Claim

@[expose] public section

set_option maxRecDepth 16384

noncomputable section

namespace Cert.ResidLastIdeal.Run

open Cert.ResidLastIdeal Cert.ResidLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The separation-logic model in which the body's triples are stated. -/
abbrev Mdl (F : FTy → Type) [FloatOps F] : Type := MT nD τ sig Unit (Elt F) ℕ (UR sig nD τ) ℕ

variable (m : (ℓ : Loc nD τ sig) → Buf (Elt F) ℓ) (ρ : Dev nD → PrngReg)

/-! ## The schedule -/

/-- The first store's condition holds exactly at the points of the first half. -/
theorem low_iff : ∀ t : Fin cfg0.N, k0_cond1 (grid0.coords t) = 1#1 ↔ t.val < 32 :=
  (by decide +kernel : ∀ t : Fin grid0.N, k0_cond1 (grid0.coords t) = 1#1 ↔ t.val < 32)

/-- The second store's condition holds exactly at the points of the second half. -/
theorem high_iff : ∀ t : Fin cfg0.N, k0_cond2 (grid0.coords t) = 1#1 ↔ 32 ≤ t.val :=
  (by decide +kernel : ∀ t : Fin grid0.N, k0_cond2 (grid0.coords t) = 1#1 ↔ 32 ≤ t.val)

/-- Window 3 is written back at the first 31 points and at the last one. -/
theorem flush3 : ∀ t : Fin cfg0.N, (cfg0.win 3).flush t = decide (t.val < 31 ∨ t.val = 63) :=
  (by decide +kernel : ∀ t : Fin grid0.N, win0_3.flush t = decide (t.val < 31 ∨ t.val = 63))

/-- Window 4 is written back at the points of the second half. -/
theorem flush4 : ∀ t : Fin cfg0.N, (cfg0.win 4).flush t = decide (32 ≤ t.val) :=
  (by decide +kernel : ∀ t : Fin grid0.N, win0_4.flush t = decide (32 ≤ t.val))

/-- Window 3 rests in the second half. -/
theorem idle3 (t : Fin cfg0.N) : cfg0.idle 3 (cfg0.grid.coords t) = decide (32 ≤ t.val) := by
  have h := low_iff t
  show (!(k0_cond1 (grid0.coords t) == 1#1)) = _
  by_cases h2 : 32 ≤ t.val
  · have h3 : ¬ k0_cond1 (grid0.coords t) = 1#1 := by rw [h]; omega
    simp [h2, h3]
  · have h3 : k0_cond1 (grid0.coords t) = 1#1 := by rw [h]; omega
    simp [h2, h3]

/-- Window 4 rests in the first half. -/
theorem idle4 (t : Fin cfg0.N) : cfg0.idle 4 (cfg0.grid.coords t) = decide (t.val < 32) := by
  have h := high_iff t
  show (!(k0_cond2 (grid0.coords t) == 1#1)) = _
  by_cases h2 : t.val < 32
  · have h3 : ¬ k0_cond2 (grid0.coords t) = 1#1 := by rw [h]; omega
    simp [h2, h3]
  · have h3 : k0_cond2 (grid0.coords t) = 1#1 := by rw [h]; omega
    simp [h2, h3]

/-! ## The body -/

/-- A whole block of 256 rows. -/
abbrev rows : Rect S256x4096 := Rect.unit (s := S256x4096) ![0, 0] S256x4096.size inb_S256x4096_S256x4096_0_0
/-- The whole gain. -/
abbrev gain : Rect S1x1x4096 := Rect.unit (s := S1x1x4096) ![0, 0, 0] S1x1x4096.size inb_S1x1x4096_S1x1x4096_0_0_0

/-- The block that a point stores, from the branch output's rows, the residual's rows and the gain. -/
def stored (o : Vec F S256x4096 .bf16) (x : Vec F S256x4096 .f32) (g : Vec F S1x1x4096 .f32) : Vec F S256x4096 .f32 :=
  View.canon [⟨rows, k0_pay1 (View.ld x rows) (View.ld o rows) (View.ld g gain)⟩]

/-- One store over all rows covers the block. -/
theorem stored_covers (p : Vec F S256x4096 .f32) (y : S256x4096.Idx) :
    ∃ pc ∈ ([⟨rows, p⟩] : List (View.Piece (Elt F) S256x4096 .f32)), y ∈ pc.1.set :=
  View.cover_of_tiled [⟨rows, p⟩] S256x4096.size (by rfl) y

set_option maxHeartbeats 1000000 in
/-- Where only the first condition holds, the body fills the fourth buffer and needs no other output. -/
theorem body_low (c : Dev nD) (E : Set ℕ) (i : grid0.Coords) (h1 : k0_cond1 i = 1#1) (h2 : ¬ k0_cond2 i = 1#1)
    (a1 : Memref sig .tc .vmem S256x4096 .bf16) (w1 : a1.IsWhole) (a2 : Memref sig .tc .vmem S256x4096 .f32) (w2 : a2.IsWhole)
    (a3 : Memref sig .tc .vmem S1x1x4096 .f32) (w3 : a3.IsWhole) (a4 : Memref sig .tc .vmem S256x4096 .f32) (w4 : a4.IsWhole)
    (a5 : Memref sig .tc .vmem S256x4096 .f32) (w5 : a5.IsWhole)
    (o : Vec F S256x4096 .bf16) (x : Vec F S256x4096 .f32) (g : Vec F S1x1x4096 .f32) (K : PUnit → sProp (Mdl F)) :
    iprop(owns (c : Thread nD τ) a1 fullShare o ∗ owns (c : Thread nD τ) a2 fullShare x ∗ owns (c : Thread nD τ) a3 fullShare g
        ∗ (∃ d, owns (c : Thread nD τ) a4 fullShare d)
        ∗ (iprop(owns (c : Thread nD τ) a1 fullShare o ∗ owns (c : Thread nD τ) a2 fullShare x ∗ owns (c : Thread nD τ) a3 fullShare g
            ∗ owns (c : Thread nD τ) a4 fullShare (stored o x g)) -∗ K ⟨⟩))
      ⊢ wp frame (wpE (defs₀ (F := F)) Variants.none c none) E (cc0_resid_last i a1 w1 a2 w2 a3 w3 a4 w4 a5 w5) K := by
  simp only [cc0_resid_last_eq_skeleton]; unfold cc0_resid_last_skel owns
  iintro ⟨⟨%u1, %e1, B1⟩, ⟨%u2, %e2, B2⟩, ⟨%u3, %e3, B3⟩, ⟨%d4, %u4, -, B4⟩, Hk⟩
  subst e1 e2 e3
  sl_exec
  sl_step
  iapply Hk
  isplitl [B1]
  · iexists u1; isplitr; · ipureintro; rfl
    iexact B1
  isplitl [B2]
  · iexists u2; isplitr; · ipureintro; rfl
    iexact B2
  isplitl [B3]
  · iexists u3; isplitr; · ipureintro; rfl
    iexact B3
  iexists _; isplitr
  swap; · iexact B4
  ipureintro
  exact View.read_writes_eq_canon _ _ _ (stored_covers _)

set_option maxHeartbeats 1000000 in
/-- Where only the second condition holds, the body fills the fifth buffer and needs no other output. -/
theorem body_high (c : Dev nD) (E : Set ℕ) (i : grid0.Coords) (h1 : ¬ k0_cond1 i = 1#1) (h2 : k0_cond2 i = 1#1)
    (a1 : Memref sig .tc .vmem S256x4096 .bf16) (w1 : a1.IsWhole) (a2 : Memref sig .tc .vmem S256x4096 .f32) (w2 : a2.IsWhole)
    (a3 : Memref sig .tc .vmem S1x1x4096 .f32) (w3 : a3.IsWhole) (a4 : Memref sig .tc .vmem S256x4096 .f32) (w4 : a4.IsWhole)
    (a5 : Memref sig .tc .vmem S256x4096 .f32) (w5 : a5.IsWhole)
    (o : Vec F S256x4096 .bf16) (x : Vec F S256x4096 .f32) (g : Vec F S1x1x4096 .f32) (K : PUnit → sProp (Mdl F)) :
    iprop(owns (c : Thread nD τ) a1 fullShare o ∗ owns (c : Thread nD τ) a2 fullShare x ∗ owns (c : Thread nD τ) a3 fullShare g
        ∗ (∃ d, owns (c : Thread nD τ) a5 fullShare d)
        ∗ (iprop(owns (c : Thread nD τ) a1 fullShare o ∗ owns (c : Thread nD τ) a2 fullShare x ∗ owns (c : Thread nD τ) a3 fullShare g
            ∗ owns (c : Thread nD τ) a5 fullShare (stored o x g)) -∗ K ⟨⟩))
      ⊢ wp frame (wpE (defs₀ (F := F)) Variants.none c none) E (cc0_resid_last i a1 w1 a2 w2 a3 w3 a4 w4 a5 w5) K := by
  simp only [cc0_resid_last_eq_skeleton]; unfold cc0_resid_last_skel owns
  iintro ⟨⟨%u1, %e1, B1⟩, ⟨%u2, %e2, B2⟩, ⟨%u3, %e3, B3⟩, ⟨%d5, %u5, -, B5⟩, Hk⟩
  subst e1 e2 e3
  sl_exec
  sl_step
  iapply Hk
  isplitl [B1]
  · iexists u1; isplitr; · ipureintro; rfl
    iexact B1
  isplitl [B2]
  · iexists u2; isplitr; · ipureintro; rfl
    iexact B2
  isplitl [B3]
  · iexists u3; isplitr; · ipureintro; rfl
    iexact B3
  iexists _; isplitr
  swap; · iexact B5
  ipureintro
  exact View.read_writes_eq_canon _ _ _ (stored_covers _)

/-! ## The proof data -/

/-- The block that point `t` stores. -/
def storedAt (c : Dev nD) (t : Fin cfg0.N) : Vec F S256x4096 .f32 := stored (iblk m c 0 t) (iblk m c 1 t) (iblk m c 2 t)

/-- The last point at or before `t` that stores into window 3. -/
def lastLow (t : Fin cfg0.N) : Fin cfg0.N := ⟨min t.val 31, Nat.lt_of_le_of_lt (Nat.min_le_left _ _) t.isLt⟩

/-- What each buffer holds after a point: an input its block, window 3 what was last stored into it, window 4 the
    point's own block (in the first half nothing is claimed of it). -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => storedAt m c (lastLow t)
    | ⟨4, _⟩ => storedAt m c t
  Φ _ := Pipeline.ΦA spec0 c
  q _ := fullShare
  owed _ := 0

/-- The arrays start as the region finds them. -/
theorem data_A (c : Dev nD) (w : Fin cfg0.W) : (data m 0 c).A w = V m c (Pipeline.arrRef spec0 w) := by dsimp only [data]
/-- Window 0 keeps its block. -/
theorem left0 (c : Dev nD) (t : Fin cfg0.N) : (data m 0 c).after 0 t = iblk m c 0 t := by dsimp only [data]
/-- Window 1 keeps its block. -/
theorem left1 (c : Dev nD) (t : Fin cfg0.N) : (data m 0 c).after 1 t = iblk m c 1 t := by dsimp only [data]
/-- Window 2 keeps its block. -/
theorem left2 (c : Dev nD) (t : Fin cfg0.N) : (data m 0 c).after 2 t = iblk m c 2 t := by dsimp only [data]
/-- Window 3 holds what the last low point stored. -/
theorem left3 (c : Dev nD) (t : Fin cfg0.N) : (data m 0 c).after 3 t = storedAt m c (lastLow t) := by dsimp only [data]
/-- Window 4 holds what the point stored. -/
theorem left4 (c : Dev nD) (t : Fin cfg0.N) : (data m 0 c).after 4 t = storedAt m c t := by dsimp only [data]

/-- The body finds window 0's block. -/
theorem found0 (c : Dev nD) (t : Fin cfg0.N) (d) : (data m 0 c).before 0 t d = iblk m c 0 t :=
  before0_0_of m (data m 0 c) (data_A m c 0) (left0 m c) t d
/-- The body finds window 1's block. -/
theorem found1 (c : Dev nD) (t : Fin cfg0.N) (d) : (data m 0 c).before 1 t d = iblk m c 1 t :=
  before0_1_of m (data m 0 c) (data_A m c 1) (left1 m c) t d
/-- The body finds window 2's block. -/
theorem found2 (c : Dev nD) (t : Fin cfg0.N) (d) : (data m 0 c).before 2 t d = iblk m c 2 t :=
  before0_2_of m (data m 0 c) (data_A m c 2) (left2 m c) t d

/-- At the last point window 3's buffer still holds what point 31 stored. -/
theorem held (c : Dev nD) (t : Fin cfg0.N) (ht : t.val = 63) (d) : (data m 0 c).before 3 t d = storedAt m c (lastLow t) := by
  have e := (data m 0 c).before_idle_run 3 (fun _ => rfl) d 31 t (by omega) (fun j h1 h2 => by
    rw [idle3, flush3]
    refine ⟨decide_eq_true (by omega), decide_eq_false (by omega)⟩)
  rw [e, (data m 0 c).before_of_pos 3 _ (by dsimp only; omega) rfl, flush3, decide_eq_false (by dsimp only; omega),
    if_neg Bool.false_ne_true]
  unfold Dat.left
  rw [idle3, decide_eq_false (by dsimp only; omega)]
  dsimp only
  refine Eq.trans (b := (data m 0 c).after 3 ⟨t.val - 31 - 1, by omega⟩) rfl ?_
  rw [left3]
  congr 1
  apply Fin.ext
  simp only [lastLow]
  omega

/-! ## The body at a point -/

/-- What a point starts from. -/
def start (c : Dev nD) (t : Fin cfg0.N) : sProp (Mdl F) :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

/-- What a point ends with. -/
def finish (c : Dev nD) (t : Fin cfg0.N) : sProp (Mdl F) :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ (data m 0 c).leavesExact 3 t
    ∗ (data m 0 c).leavesExact 4 t)

/-- Window 3 in the first half: the stored block. -/
theorem leaves3_low (c : Dev nD) (t : Fin cfg0.N) (h : t.val < 32) :
    (data m 0 c).leavesExact 3 t = owns (c : Thread nD τ) (st0_3 t) fullShare (storedAt m c t) := by
  unfold Dat.leavesExact
  rw [idle3, decide_eq_false (by omega)]
  dsimp only
  rw [left3]
  congr 2
  apply Fin.ext
  simp only [lastLow]
  omega

/-- Window 4 in the second half: the stored block. -/
theorem leaves4_high (c : Dev nD) (t : Fin cfg0.N) (h : 32 ≤ t.val) :
    (data m 0 c).leavesExact 4 t = owns (c : Thread nD τ) (st0_4 t) fullShare (storedAt m c t) := by
  unfold Dat.leavesExact
  rw [idle4, decide_eq_false (by omega)]
  dsimp only
  rw [left4]

/-- Window 4 in the first half: as found. -/
theorem leaves4_low (c : Dev nD) (t : Fin cfg0.N) (h : t.val < 32) :
    (data m 0 c).leavesExact 4 t = iprop(∃ d, owns (c : Thread nD τ) (st0_4 t) fullShare ((data m 0 c).before 4 t d)) :=
  (data m 0 c).leavesExact_idle 4 t (by rw [idle4]; exact decide_eq_true h) (by rw [flush4]; exact decide_eq_false (by omega))

/-- Window 3 in the second half: as found, and at the last point what point 31 stored. -/
theorem leaves3_high (c : Dev nD) (t : Fin cfg0.N) (h : 32 ≤ t.val) :
    iprop(∃ d, owns (c : Thread nD τ) (st0_3 t) fullShare ((data m 0 c).before 3 t d)) ⊢ (data m 0 c).leavesExact 3 t := by
  have hN : t.val < 64 := t.isLt
  by_cases h2 : t.val = 63
  · have e : (data m 0 c).leavesExact 3 t = owns (c : Thread nD τ) (st0_3 t) fullShare (storedAt m c (lastLow t)) := by
      unfold Dat.leavesExact
      rw [idle3, flush3, decide_eq_true h, decide_eq_true (Or.inr h2)]
      dsimp only
      rw [left3]
    rw [e]
    simp only [held m c t h2]
    iintro ⟨%d, H⟩
    iexact H
  · rw [(data m 0 c).leavesExact_idle 3 t (by rw [idle3]; exact decide_eq_true h) (by rw [flush3]; exact decide_eq_false (by omega))]

/-- The body takes every point from its start to its finish. -/
theorem point_ok (c : Dev nD) (t : Fin cfg0.N) :
    start m c t ⊢ wp frame (wpE (defs₀ (F := F)) Variants.none c none) Set.univ (bodyAt0 t) (fun _ => finish m c t) := by
  unfold start finish bodyAt0
  simp only [found0, found1, found2]
  rw [show (data m 0 c).Φ t.succ = (data m 0 c).Φ t.castSucc from rfl,
    show (data m 0 c).owesAt () t.succ = (data m 0 c).owesAt () t.castSucc from rfl, left0, left1, left2]
  by_cases h : t.val < 32
  · rw [leaves3_low m c t h, leaves4_low m c t h]
    unfold storedAt
    iintro ⟨HΦ, Ho, ⟨%d0, B0⟩, ⟨%d1, B1⟩, ⟨%d2, B2⟩, ⟨%d3, B3⟩, B4⟩
    iapply (body_low c Set.univ (grid0.coords t) ((low_iff t).mpr h) (fun h2 => by have := (high_iff t).mp h2; omega)
      _ _ _ _ _ _ _ _ _ _ (iblk m c 0 t) (iblk m c 1 t) (iblk m c 2 t) _)
    isplitl [B0]; · iexact B0
    isplitl [B1]; · iexact B1
    isplitl [B2]; · iexact B2
    isplitl [B3]; · iexists _; iexact B3
    iintro ⟨B0, B1, B2, B3⟩
    isplitl [HΦ]; · iexact HΦ
    isplitl [Ho]; · iexact Ho
    isplitl [B0]; · iexact B0
    isplitl [B1]; · iexact B1
    isplitl [B2]; · iexact B2
    isplitl [B3]; · iexact B3
    iexact B4
  · have h' : 32 ≤ t.val := by omega
    rw [leaves4_high m c t h']
    unfold storedAt
    iintro ⟨HΦ, Ho, ⟨%d0, B0⟩, ⟨%d1, B1⟩, ⟨%d2, B2⟩, B3, ⟨%d4, B4⟩⟩
    iapply (body_high c Set.univ (grid0.coords t) (fun h1 => h ((low_iff t).mp h1)) ((high_iff t).mpr h')
      _ _ _ _ _ _ _ _ _ _ (iblk m c 0 t) (iblk m c 1 t) (iblk m c 2 t) _)
    isplitl [B0]; · iexact B0
    isplitl [B1]; · iexact B1
    isplitl [B2]; · iexact B2
    isplitl [B4]; · iexists _; iexact B4
    iintro ⟨B0, B1, B2, B4⟩
    isplitl [HΦ]; · iexact HΦ
    isplitl [Ho]; · iexact Ho
    isplitl [B0]; · iexact B0
    isplitl [B1]; · iexact B1
    isplitl [B2]; · iexact B2
    isplitl [B3]
    · iapply (leaves3_high m c t h'); iexact B3
    iexact B4

/-- The body's row of the table is the body at the point. -/
theorem row (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (data (F := F) m 0 c) (defs₀ (F := F)) Variants.none () Set.univ := fun t => by
  rw [bigSep_W0, bigSep_W0, row]
  exact triple_restated (point_ok m c t) rfl .rfl fun _ => .rfl

/-! ## The run -/

set_option backward.isDefEq.respectTransparency.types false in
set_option maxHeartbeats 800000 in
/-- Every execution ends, with the arrays as the proof data say and every counter at zero. -/
theorem run_ok : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) ((θ_run defs _ _).mono (fun _ h => h.1) (run_ok m ρ)))
    ((θ_run defs _ _).mono (fun _ h => h.2) (run_ok m ρ))

/-- The run with both results named, the arguments unchanged. -/
theorem run_results : θ_run defs (onTc (τ := τ) (main (F := F))) ⟨m, fun _ => 0, ρ⟩ fun r => ∀ c : Dev nD,
      r.2.mem ((c : Thread nD τ).loc main_v1_0) = (data m 0 c).arrAt 3 cfg0.N
      ∧ r.2.mem ((c : Thread nD τ).loc main_v1_1) = (data m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.1 c).1 3, (h.1.1 c).1 4, h.2.1 c⟩) (θ_run_and (run_ok m ρ) (frame m ρ))

end Cert.ResidLastIdeal.Run

end
-- ==== Proof.ResidLastValue.lean ====
module

public import proofs.«01_k».proof.Proof.Gen.ResidLastRefIdeal.Run
public import proofs.«01_k».proof.Proof.Gen.ResidLastRefIdeal.Read
public import Idealize.ShloMosaic.Lib.Pipeline.Value
public import Idealize.ShloMosaic.Lib.Pipeline.ValueKit
public import Idealize.ShloMosaic.Lib.Pointwise
public import proofs.«01_k».proof.Proof.ResidLastIdealRun

@[expose] public section

set_option maxRecDepth 16384

noncomputable section

open Idealize.ShloMosaic Idealize.ShloMosaic.TcCoe Idealize.SL.Sem
open Idealize.ShloMosaic.Pipeline (Dat)

namespace Cert.ResidLastIdeal.Final

open Cert.ResidLastIdeal Cert.ResidLastIdeal.Gen
open Cert.ResidLastIdeal.Run Cert.ResidLastRefIdeal.Read

variable (m : (ℓ : Loc nD τ sig) → Buf (Elt Ideal) ℓ)

/-- Every window's block index at each grid point. -/
theorem idx : ∀ t : Fin cfg0.N, win0_0.index t = ![t.val, 0] ∧ win0_1.index t = ![t.val, 0] ∧ win0_2.index t = ![1, 0, 0]
    ∧ win0_3.index t = ![min t.val 31, 0] ∧ win0_4.index t = ![t.val - 32, 0] :=
  (by decide +kernel : ∀ t : Fin grid0.N, _)

/-- The gain array that the call reads is the argument, reshaped. -/
theorem gains (c : Dev nD) (i) : V m c main_v0 i = m ((c : Thread nD τ).loc main_arg2) (ix2 (i 0) (i 2)) := by
  simp only [V, hostOps0]
  after_results
  pointwise

/-- What a grid point stores at a block index is the reference's sum at the row and column where it sits. -/
theorem point (c : Dev nD) (t : Fin cfg0.N) (y : S256x4096.Idx) (i : Cert.ResidLastRefIdeal.S16384x4096.Idx)
    (h0 : (i 0 : ℕ) = t.val * 256 + (y 0 : ℕ)) (h1 : (i 1 : ℕ) = (y 1 : ℕ)) :
    k0_pay1 (iblk m c 1 t) (iblk m c 0 t) (iblk m c 2 t) y
      = val_main_v18 (m ((c : Thread nD τ).loc main_arg0)) (m ((c : Thread nD τ).loc main_arg1)) (m ((c : Thread nD τ).loc main_arg2)) i := by
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_cst_2, val_main_v16, val_main_v17, val_main_v18]
  have hi := idx t
  blk_point [iblk, gains, hi]

/-- The prompt's rows after the run are the reference's. -/
theorem finalPrompt (c : Dev nD) : (data m 0 c).arrAt 3 (cfgs 0).N
    = val_main_v19 (m ((c : Thread nD τ).loc main_arg0)) (m ((c : Thread nD τ).loc main_arg1)) (m ((c : Thread nD τ).loc main_arg2)) := by
  refine (data m 0 c).arrAt_eq_of_covers 3 _ (by decide +kernel) fun t _ y => ?_
  blk_simp
  rw [left3, val_main_v19_apply]
  unfold storedAt stored
  frame_out
  have hi := idx t
  have e0 : (((cfg0.win 3).blk t).view.emb y 0 : ℕ) = min t.val 31 * 256 + (y 0 : ℕ) := by blk_simp [hi]
  have e1 : (((cfg0.win 3).blk t).view.emb y 1 : ℕ) = (y 1 : ℕ) := by blk_simp [hi]
  refine point m c (lastLow t) y _ ?_ ?_
  · show (((cfg0.win 3).blk t).view.emb y 0 : ℕ) = min t.val 31 * 256 + (y 0 : ℕ)
    exact e0
  · show (((cfg0.win 3).blk t).view.emb y 1 : ℕ) = (y 1 : ℕ)
    exact e1

/-- The samples' rows after the run are the reference's. -/
theorem finalSample (c : Dev nD) : (data m 0 c).arrAt 4 (cfgs 0).N
    = val_main_v20 (m ((c : Thread nD τ).loc main_arg0)) (m ((c : Thread nD τ).loc main_arg1)) (m ((c : Thread nD τ).loc main_arg2)) := by
  refine (data m 0 c).arrAt_eq_of_covers 4 _ (by decide +kernel) fun t hf y => ?_
  have h32 : 32 ≤ t.val := by rw [flush4] at hf; exact of_decide_eq_true hf
  blk_simp
  rw [left4, val_main_v20_apply]
  unfold storedAt stored
  frame_out
  have hi := idx t
  have e0 : (((cfg0.win 4).blk t).view.emb y 0 : ℕ) = (t.val - 32) * 256 + (y 0 : ℕ) := by blk_simp [hi]
  have e1 : (((cfg0.win 4).blk t).view.emb y 1 : ℕ) = (y 1 : ℕ) := by blk_simp [hi]
  refine point m c t y _ ?_ ?_
  · show 8192 + (((cfg0.win 4).blk t).view.emb y 0 : ℕ) = t.val * 256 + (y 0 : ℕ)
    omega
  · show (((cfg0.win 4).blk t).view.emb y 1 : ℕ) = (y 1 : ℕ)
    exact e1

end Cert.ResidLastIdeal.Final

end
-- ==== Proof.MixDil1Tile.lean ====
module

public import proofs.«01_k».proof.Proof.Gen.MixDil1Ideal.Value
public import Idealize.ShloMosaic.Lib.Pipeline.ValueKit
public import Idealize.ShloMosaic.Lib.Pointwise
public import Idealize.ShloMosaic.Lib.Pipeline.ReadBack

/-! One block of the dilated mixer projection, read at one index. -/

@[expose] public section

set_option maxRecDepth 16384

noncomputable section

open Idealize.ShloMosaic Idealize.ShloMosaic.TcCoe Idealize.SL.Sem

namespace Cert.MixDil1Ideal.Tile

open Cert.MixDil1Ideal Cert.MixDil1Ideal.Gen

/-- Every fourth row of what the last store left, read where that store's own rows are. -/
theorem read_rows {sig : RefSig} {κ : Kind} {sp : Space} (v : View sig κ sp S4x1024x128 .f32) (b o p : ℕ)
    (hw : ∀ a, (![b, o, 0] : Fin 3 → ℕ) a + S1x256x128.size a ≤ S4x1024x128.size a) (f : Vec Ideal S1x256x128 .f32)
    (L : List (View.Piece (Elt Ideal) S4x1024x128 .f32))
    (hr : ∀ a, S1x64x128.size a = 0 ∨ (![b, p, 0] : Fin 3 → ℕ) a + (![1, 4, 1] : Fin 3 → ℕ) a * (S1x64x128.size a - 1) < S4x1024x128.size a)
    (x : S1x64x128.Idx) (q : Fin 256) (hq : (q : ℕ) + o = p + 4 * (x 1 : ℕ)) :
    v.readCov (⟨Rect.unit (s := S4x1024x128) ![b, o, 0] S1x256x128.size hw, f⟩ :: L) (⟨![b, p, 0], S1x64x128.size, ![1, 4, 1], hr⟩ : LoadRect S4x1024x128) x
      = f (ix3 0 q (x 2)) := by
  rw [View.readCov_eq_canon']
  have e : (⟨![b, p, 0], S1x64x128.size, ![1, 4, 1], hr⟩ : LoadRect S4x1024x128).idx x
      = (Rect.unit (s := S4x1024x128) ![b, o, 0] S1x256x128.size hw).emb (ix3 0 q (x 2)) := by
    have z : (x 0 : ℕ) < 1 := (x 0).isLt
    funext a
    apply Fin.ext
    match a with
    | 0 => show b + 1 * (x 0 : ℕ) = b + 1 * 0; omega
    | 1 => show p + 4 * (x 1 : ℕ) = o + 1 * (q : ℕ); omega
    | 2 => show 0 + 1 * (x 2 : ℕ) = 0 + 1 * (x 2 : ℕ); rfl
  exact (congrArg (View.canon _) e).trans (View.canon_cons_emb _ _ _ _)

set_option maxHeartbeats 20000000 in
/-- What the body leaves in the output block, from the two input blocks: at row `i` of dilation slot `r` the product's
    row `4 i + r`. -/
theorem block (c : Dev nD) (i : grid0.Coords) (a2 : Memref sig .tc .vmem S1024x4096 .bf16) (h2 : a2.IsWhole)
    (a3 : Memref sig .tc .vmem S1x4096x512 .bf16) (h3 : a3.IsWhole) (a4 : Memref sig .tc .vmem S4x256x512 .bf16) (h4 : a4.IsWhole)
    (a5 : Memref sig .tc .vmem S4x1024x128 .f32) (h5 : a5.IsWhole)
    (u : Vec Ideal S1024x4096 .bf16) (w : Vec Ideal S1x4096x512 .bf16) (y : S4x256x512.Idx) (r : Fin 1024) (d : Fin 512)
    (hr : (r : ℕ) = 4 * (y 1 : ℕ) + (y 0 : ℕ)) (hd : (d : ℕ) = (y 2 : ℕ)) :
    out0_A_2 c i a2 h2 a3 h3 a4 h4 a5 h5 u w y = ∑ k : Fin 4096, u (ix2 r k) * w (ix3 0 k d) := by
  frame_out
  canon_tiles x h
  all_goals
    open_payloads
    pointwise
    refine (read_rows _ _ _ _ _ _ _ _ x ⟨(r : ℕ) % 256, by omega⟩ (by show (r : ℕ) % 256 + _ = _; omega)).trans ?_
    pointwise
    blk_point []

end Cert.MixDil1Ideal.Tile

end
-- ==== Proof.MixDil1Value.lean ====
module

public import proofs.«01_k».proof.Proof.MixDil1Tile
public import proofs.«01_k».proof.Proof.Gen.MixDil1RefIdeal.Run
public import proofs.«01_k».proof.Proof.Gen.MixDil1RefIdeal.Read

/-! The dilated mixer projection's result array is the reference's. -/

@[expose] public section

set_option maxRecDepth 16384

noncomputable section

open Idealize.ShloMosaic Idealize.ShloMosaic.TcCoe Idealize.SL.Sem
open Idealize.ShloMosaic.Pipeline (Dat)

namespace Cert.MixDil1Ideal.Final

open Cert.MixDil1Ideal Cert.MixDil1Ideal.Gen
open Cert.MixDil1RefIdeal.Read

variable (m : (ℓ : Loc nD τ sig) → Buf (Elt Ideal) ℓ)

/-- Every window's block index at each grid point: the rows by tile, and the middle third of each of the three dilated
    column groups. -/
theorem idx : ∀ t : Fin cfg0.N, win0_0.index t = ![t.val / 3, 0] ∧ win0_1.index t = ![0, 0, 11 + 3 * (t.val % 3)]
    ∧ win0_2.index t = ![0, t.val / 3, t.val % 3] :=
  (by decide +kernel : ∀ t : Fin grid0.N, _)

/-- The reference's array, slot by slot: row `b` of slot `a` is the gathered columns' row `4 b + a`. -/
theorem ref_rows (x0 x1) (a : Fin 4) (b : Fin 4096) (e : Fin 1536) (r : Fin 16384) (hr : (r : ℕ) = 4 * (b : ℕ) + (a : ℕ)) :
    val_main_v16 (F := Ideal) x0 x1 (ix3 a b e) = val_main_v13 (F := Ideal) x0 x1 (ix2 r e) := by
  unfold val_main_v16 val_main_v15 val_main_v14
  generalize val_main_v13 (F := Ideal) x0 x1 = S
  pointwise
  blk_ext

/-- The gathered columns: the middle third of each dilated column group. -/
theorem ref_cols (x0 x1) (r : Fin 16384) (e : Fin 1536) (q : Fin 9728) (hq : (q : ℕ) = 5632 + 1536 * ((e : ℕ) / 512) + (e : ℕ) % 512) :
    val_main_v13 (F := Ideal) x0 x1 (ix2 r e) = val_main_v2 (F := Ideal) x0 x1 (ix2 r q) := by
  unfold val_main_v13 val_main_v12 val_main_v11 val_main_v10 val_main_v9 val_main_v8 val_main_v7
  generalize val_main_v2 (F := Ideal) x0 x1 = S
  pointwise
  by_cases h1 : (e : ℕ) < 512
  · rw [dif_pos (by omega)]
    blk_ext
  · rw [dif_neg (by omega)]
    by_cases h2 : (e : ℕ) - 512 < 512
    · rw [dif_pos (by omega)]
      blk_ext
    · rw [dif_neg (by omega)]
      blk_ext

/-- The product. -/
theorem ref_product (x0 x1) (r : Fin 16384) (q : Fin 9728) :
    val_main_v2 (F := Ideal) x0 x1 (ix2 r q) = ∑ k : Fin 4096, x0 (ix2 r k) * x1 (ix2 k q) := by
  pointwise [val_main_v0, val_main_v1, val_main_v2]

/-- What a grid point stores at a block index is the reference's entry at the array index it sits at. -/
theorem point (c : Dev nD) (t : Fin cfg0.N) (y : S4x256x512.Idx) (r : Fin 1024) (d : Fin 512)
    (hr : (r : ℕ) = 4 * (y 1 : ℕ) + (y 0 : ℕ)) (hd : (d : ℕ) = (y 2 : ℕ)) :
    ∑ k : Fin 4096, (show FVec Ideal S1024x4096 .bf16 from iblk m c 0 t) (ix2 r k) * (show FVec Ideal S1x4096x512 .bf16 from iblk m c 1 t) (ix3 0 k d)
    = val_main_v16 (F := Ideal) (m ((c : Thread nD τ).loc main_arg0)) (m ((c : Thread nD τ).loc main_arg1)) (((cfg0.win 2).blk t).view.emb y) := by
  have ht : t.val < 48 := lt_of_lt_of_eq t.isLt N_0
  have b0 : (y 0 : ℕ) < 4 := (y 0).isLt
  have b1 : (y 1 : ℕ) < 256 := (y 1).isLt
  have b2 : (y 2 : ℕ) < 512 := (y 2).isLt
  have hi : ((cfg0.win 2).blk t).view.emb y = (ix3 ⟨(y 0 : ℕ), b0⟩ ⟨t.val / 3 * 256 + (y 1 : ℕ), by omega⟩ ⟨t.val % 3 * 512 + (y 2 : ℕ), by omega⟩ : S4x4096x1536.Idx) := by
    blk_ext [idx t]
  rw [hi]
  refine Eq.trans ?_ ((ref_rows _ _ _ _ _ ⟨t.val / 3 * 1024 + (r : ℕ), by omega⟩ (by show t.val / 3 * 1024 + (r : ℕ) = 4 * (t.val / 3 * 256 + (y 1 : ℕ)) + (y 0 : ℕ); omega)).trans
    ((ref_cols _ _ _ _ ⟨5632 + 1536 * (t.val % 3) + (d : ℕ), by omega⟩ (by
      show 5632 + 1536 * (t.val % 3) + (d : ℕ) = 5632 + 1536 * ((t.val % 3 * 512 + (y 2 : ℕ)) / 512) + (t.val % 3 * 512 + (y 2 : ℕ)) % 512
      omega)).trans (ref_product _ _ _ _))).symm
  blk_point [iblk, V, idx t]

/-- The result array after the run is the reference's. -/
theorem final (c : Dev nD) : (dats m 0 c).arrAt 2 (cfgs 0).N
    = val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  have b0 : (y 0 : ℕ) < 4 := (y 0).isLt
  have b1 : (y 1 : ℕ) < 256 := (y 1).isLt
  have b2 : (y 2 : ℕ) < 512 := (y 2).isLt
  exact (Tile.block c _ _ _ _ _ _ _ _ _ _ _ y ⟨4 * (y 1 : ℕ) + (y 0 : ℕ), by omega⟩ ⟨(y 2 : ℕ), b2⟩ rfl rfl).trans
    (point m c t y _ _ rfl rfl)

end Cert.MixDil1Ideal.Final

end
-- ==== Proof.MixQkTile.lean ====
module

public import proofs.«01_k».proof.Proof.Gen.MixQkIdeal.Value
public import Idealize.ShloMosaic.Lib.Pipeline.ValueKit
public import Idealize.ShloMosaic.Lib.Pointwise

/-! One block of the query and key projection, read at one index. -/

@[expose] public section

set_option maxRecDepth 16384

noncomputable section

open Idealize.ShloMosaic Idealize.ShloMosaic.TcCoe Idealize.SL.Sem

namespace Cert.MixQkIdeal.Tile

open Cert.MixQkIdeal Cert.MixQkIdeal.Gen

/-- Column `j` of a head after the norm: the column times the reciprocal root of the mean square over the head, times
    the gain. -/
def normed (x g : Fin 128 → EReal) (j : Fin 128) : EReal :=
  x j * Ideal.rsqrt (Ideal.div (∑ e : Fin 128, x e * x e) (Ideal.ofBits .f32 0x43000000#32) + Ideal.ofBits .f32 0x358637BD#32) * g j

/-- Column `j` of a head after the rotation: the column by the cosine, the next by the first sine, the one before by
    the second. -/
def rotated (x : Fin 128 → EReal) (cs sa sb : EReal) (j : Fin 128) : EReal :=
  x j * cs + x ⟨((j : ℕ) + 128 - 127) % 128, by omega⟩ * sa + x ⟨((j : ℕ) + 128 - 1) % 128, by omega⟩ * sb

/-- The block's entry at row `r` and column `j` of head `h`. -/
def cell (u : Vec Ideal S1024x4096 .bf16) (w : Vec Ideal S1x4096x1024 .bf16) (g : Vec Ideal S1x8x128 .f32)
    (s : Vec Ideal S8x128 .f32) (cs sa sb : Vec Ideal S1024x128 .f32) (r : Fin 1024) (h : Fin 8) (j : Fin 128) : EReal :=
  rotated (normed (fun e => ∑ k : Fin 4096, u (ix2 r k) * w (ix3 0 k ⟨(h : ℕ) * 128 + (e : ℕ), by omega⟩)) (fun e => g (ix3 0 h e)))
    (cs (ix2 r j)) (sa (ix2 r j)) (sb (ix2 r j)) j * s (ix2 h j)

/-- The entry under a block index, from the index's place in its tile. -/
theorem place (u : Vec Ideal S1024x4096 .bf16) (w : Vec Ideal S1x4096x1024 .bf16) (g : Vec Ideal S1x8x128 .f32)
    (s : Vec Ideal S8x128 .f32) (cs sa sb : Vec Ideal S1024x128 .f32) (r : Fin 1024) (h : Fin 8) (j : Fin 128)
    {o q a : ℕ} {b : Fin 128} (hr : (r : ℕ) = o + a) (y1 : ℕ) (hh : (h : ℕ) = y1 / 128) (hj : (j : ℕ) = y1 % 128)
    (hy : y1 = q + (b : ℕ)) (hq : q % 128 = 0) (ho : o + a < 1024) (hb : q / 128 < 8) :
    cell u w g s cs sa sb r h j = cell u w g s cs sa sb ⟨o + a, ho⟩ ⟨q / 128, hb⟩ b := by
  have e0 : r = ⟨o + a, ho⟩ := Fin.ext hr
  have e1 : h = ⟨q / 128, hb⟩ := Fin.ext (by show (h : ℕ) = q / 128; omega)
  have e2 : j = b := Fin.ext (by omega)
  rw [e0, e1, e2]

set_option maxHeartbeats 20000000 in
/-- What the body leaves in the output block, from the seven input blocks. -/
theorem block (c : Dev nD) (i : grid0.Coords) (a2 : Memref sig .tc .vmem S1024x4096 .bf16) (h2 : a2.IsWhole)
    (a3 : Memref sig .tc .vmem S1x4096x1024 .bf16) (h3 : a3.IsWhole) (a4 : Memref sig .tc .vmem S1x8x128 .f32) (h4 : a4.IsWhole)
    (a5 : Memref sig .tc .vmem S8x128 .f32) (h5 : a5.IsWhole) (a6 : Memref sig .tc .vmem S1024x128 .f32) (h6 : a6.IsWhole)
    (a7 : Memref sig .tc .vmem S1024x128 .f32) (h7 : a7.IsWhole) (a8 : Memref sig .tc .vmem S1024x128 .f32) (h8 : a8.IsWhole)
    (a9 : Memref sig .tc .vmem S1024x1024 .bf16) (h9 : a9.IsWhole)
    (u : Vec Ideal S1024x4096 .bf16) (w : Vec Ideal S1x4096x1024 .bf16) (g : Vec Ideal S1x8x128 .f32)
    (s : Vec Ideal S8x128 .f32) (cs sa sb : Vec Ideal S1024x128 .f32) (y : S1024x1024.Idx) :
    out0_A_7 c i a2 h2 a3 h3 a4 h4 a5 h5 a6 h6 a7 h7 a8 h8 a9 h9 u w g s cs sa sb y
      = cell u w g s cs sa sb (y 0) ⟨(y 1 : ℕ) / 128, by have := (y 1).isLt; dsimp at *; omega⟩ ⟨(y 1 : ℕ) % 128, by omega⟩ := by
  have b0 : (y 0 : ℕ) < 1024 := (y 0).isLt
  have b1 : (y 1 : ℕ) < 1024 := (y 1).isLt
  frame_out
  canon_tiles x h
  all_goals
    open_payloads
    first
      | rw [place u w g s cs sa sb _ _ _ h0 (y 1 : ℕ) rfl rfl h1 (by decide) (by omega) (by decide)]
      | rw [place u w g s cs sa sb _ _ _ h0 (y 1 : ℕ) rfl rfl (h1.trans (Nat.zero_add _).symm) (by decide) (by omega) (by decide)]
      | rw [place u w g s cs sa sb _ _ _ (h0.trans (Nat.zero_add _).symm) (y 1 : ℕ) rfl rfl h1 (by decide) (by omega) (by decide)]
      | rw [place u w g s cs sa sb _ _ _ (h0.trans (Nat.zero_add _).symm) (y 1 : ℕ) rfl rfl (h1.trans (Nat.zero_add _).symm) (by decide) (by omega) (by decide)]
    unfold cell rotated normed
    pointwise

end Cert.MixQkIdeal.Tile

end
-- ==== Proof.MixQkEntry.lean ====
module

public import proofs.«01_k».proof.Proof.Gen.MixQkIdeal.Value
public import Idealize.ShloMosaic.Lib.Pipeline.ValueKit
public import Idealize.ShloMosaic.Lib.Pointwise

/-! What the arrays of the query and key projection hold when its grid starts. -/

@[expose] public section

set_option maxRecDepth 16384

noncomputable section

open Idealize.ShloMosaic Idealize.ShloMosaic.TcCoe Idealize.SL.Sem
open Idealize.ShloMosaic.Pipeline (Dat)

namespace Cert.MixQkIdeal.Entry

open Cert.MixQkIdeal Cert.MixQkIdeal.Gen

variable (m : (ℓ : Loc nD τ sig) → Buf (Elt Ideal) ℓ)

/-- The weight with a leading axis of one. -/
theorem entryW (c : Dev nD) (k : Fin 4096) (j : Fin 9728) :
    V m c main_v26 (ix3 0 k j) = m ((c : Thread nD τ).loc main_arg1) (ix2 k j) := by
  simp only [V, hostOps0, hostOps0_1, hostOps0_2, hostOps0_3, hostOps0_4, hostOps0_5, hostOps0_6, List.flatten_cons, List.flatten_nil, List.append_nil, List.cons_append, List.nil_append]
  after_results
  pointwise

/-- The cosine table with every column twice. -/
theorem entryCos (c : Dev nD) (p : Fin 4096) (j : Fin 128) :
    V m c main_v1 (ix2 p j) = m ((c : Thread nD τ).loc main_arg4) (ix2 p ⟨(j : ℕ) / 2, by omega⟩) := by
  simp only [V, hostOps0, hostOps0_1, hostOps0_2, hostOps0_3, hostOps0_4, hostOps0_5, hostOps0_6, List.flatten_cons, List.flatten_nil, List.append_nil, List.cons_append, List.nil_append]
  after_results
  pointwise

/-- The gains, head by head. -/
theorem entryG (c : Dev nD) (l : Fin 2) (h : Fin 16) (j : Fin 128) :
    V m c main_v25 (ix3 l h j) = if (h : ℕ) < 12 then m ((c : Thread nD τ).loc main_arg2) (ix2 l j) else m ((c : Thread nD τ).loc main_arg3) (ix2 l j) := by
  simp only [V, hostOps0, hostOps0_1, hostOps0_2, hostOps0_3, hostOps0_4, hostOps0_5, hostOps0_6, List.flatten_cons, List.flatten_nil, List.append_nil, List.cons_append, List.nil_append]
  after_results
  pointwise
  split_ifs <;> rfl

/-- The factors, head by head. -/
theorem entryS (c : Dev nD) (h : Fin 16) (j : Fin 128) :
    V m c main_v18 (ix2 h j) = if (h : ℕ) < 12 then Ideal.div (Ideal.ofBits .f32 0x3F800000#32) (Ideal.log (Ideal.ofBits .f32 0x40000000#32) * Ideal.sqrt (Ideal.ofBits .f32 0x43000000#32))
      else Ideal.ofBits .f32 0x3F800000#32 := by
  simp only [V, hostOps0, hostOps0_1, hostOps0_2, hostOps0_3, hostOps0_4, hostOps0_5, hostOps0_6, List.flatten_cons, List.flatten_nil, List.append_nil, List.cons_append, List.nil_append]
  after_results
  pointwise
  split_ifs <;> rfl

/-- Two, or one where it is zero. -/
def divisor : IVec S_ 32 := select (cmpi .eq (constantI S_ 32 2#32) (constantI S_ 32 0#32)) (constantI S_ 32 1#32) (constantI S_ 32 2#32)

/-- A column's number divided by two: the signed remainder. -/
def signedRem : IVec S128 32 := Host.remsi (iotaInDim S128 32 0) (broadcastInDim S128 ![] bcast_S_S128 divisor)

/-- The columns whose number divided by two leaves nothing. -/
def even : IVec S128 1 :=
  cmpi .eq (select (andi (cmpi .ne (cmpi .slt signedRem (broadcastInDim S128 ![] bcast_S_S128 (constantI S_ 32 0#32)))
      (broadcastInDim S128 ![] bcast_S_S128 (cmpi .slt divisor (constantI S_ 32 0#32))))
    (cmpi .ne signedRem (broadcastInDim S128 ![] bcast_S_S128 (constantI S_ 32 0#32))))
    (addi signedRem (broadcastInDim S128 ![] bcast_S_S128 divisor)) signedRem)
    (broadcastInDim S128 ![] bcast_S_S128 (constantI S_ 32 0#32))

/-- They are the even columns. -/
theorem even_at : ∀ j : Fin 128, even (ix1 j) = if (j : ℕ) % 2 = 0 then 1#1 else 0#1 := by decide +kernel

/-- The sine table for the column after: the negated sine at even columns. -/
theorem entrySa (c : Dev nD) (p : Fin 4096) (j : Fin 128) :
    V m c main_v10 (ix2 p j) = if (j : ℕ) % 2 = 0 then -(show EReal from m ((c : Thread nD τ).loc main_arg5) (ix2 p ⟨(j : ℕ) / 2, by omega⟩)) else 0 := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  show select (broadcastInDim S4096x128 ![0, 1] bcast_S1x128_S4096x128_0_1 (broadcastInDim S1x128 ![1] bcast_S128_S1x128_1 even))
    (Host.negf (F := Ideal) (φ := .f32) (shapeCast S4096x128 (broadcastInDim (α := Ideal .f32) S4096x64x2 ![0, 1] bcast_S4096x64_S4096x64x2_0_1 (m (c, Proc.tc.devRef main_arg5))) shapeCasts_S4096x64x2_S4096x128))
    (broadcastInDim S4096x128 ![] bcast_S_S4096x128 (constant (F := Ideal) S_ .f32 0x00000000#32)) (ix2 p j) = _
  have he := even_at j
  generalize even = E at he ⊢
  pointwise
  rw [he]
  split_ifs <;> rfl

/-- The sine table for the column before: the sine at odd columns. -/
theorem entrySb (c : Dev nD) (p : Fin 4096) (j : Fin 128) :
    V m c main_v11 (ix2 p j) = if (j : ℕ) % 2 = 0 then 0 else (show EReal from m ((c : Thread nD τ).loc main_arg5) (ix2 p ⟨(j : ℕ) / 2, by omega⟩)) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  show select (broadcastInDim S4096x128 ![0, 1] bcast_S1x128_S4096x128_0_1 (broadcastInDim S1x128 ![1] bcast_S128_S1x128_1 even))
    (broadcastInDim S4096x128 ![] bcast_S_S4096x128 (constant (F := Ideal) S_ .f32 0x00000000#32))
    (shapeCast S4096x128 (broadcastInDim (α := Ideal .f32) S4096x64x2 ![0, 1] bcast_S4096x64_S4096x64x2_0_1 (m (c, Proc.tc.devRef main_arg5))) shapeCasts_S4096x64x2_S4096x128) (ix2 p j) = _
  have he := even_at j
  generalize even = E at he ⊢
  pointwise
  rw [he]
  split_ifs <;> rfl

end Cert.MixQkIdeal.Entry

end
-- ==== Proof.MixQkRef.lean ====
module

public import proofs.«01_k».proof.Proof.Gen.MixQkRefIdeal.Run
public import proofs.«01_k».proof.Proof.Gen.MixQkRefIdeal.Read
public import Idealize.ShloMosaic.Lib.Pipeline.ValueKit
public import Idealize.ShloMosaic.Lib.Pointwise

/-! The reference of the query and key projection, read at one row and one column. -/

@[expose] public section

set_option maxRecDepth 16384

noncomputable section

open Idealize.ShloMosaic Idealize.ShloMosaic.TcCoe Idealize.SL.Sem

namespace Cert.MixQkRow

open Cert.MixQkRefIdeal Cert.MixQkRefIdeal.Read

/-- Column `j` of a head after the norm: the column times the reciprocal root of the mean square over the head, times
    the gain. -/
def normed (x g : Fin 128 → EReal) (j : Fin 128) : EReal :=
  x j * Ideal.rsqrt (Ideal.div (∑ e : Fin 128, x e * x e) (Ideal.ofBits .f32 0x43000000#32) + Ideal.ofBits .f32 0x358637BD#32) * g j

/-- Column `j` of a head after the rotation of the column pairs by a cosine and a sine. -/
def turned (x : Fin 128 → EReal) (co si : EReal) (j : Fin 128) : EReal :=
  if h : (j : ℕ) % 2 = 0 then x j * co - x ⟨(j : ℕ) + 1, by omega⟩ * si else x ⟨(j : ℕ) - 1, by omega⟩ * si + x j * co

/-- The position a row of the stacked sequences has in its own sequence. -/
def pos (r : Fin 16384) : Fin 4096 := ⟨if (r : ℕ) < 8192 then (r : ℕ) % 4096 else (r : ℕ) % 2048, by split <;> omega⟩

variable (x0 : (⟨S16384x4096, .bf16⟩ : BufTy).Contents (Elt Ideal)) (x1 : (⟨S4096x9728, .bf16⟩ : BufTy).Contents (Elt Ideal))
  (x2 x3 : (⟨S2x128, .f32⟩ : BufTy).Contents (Elt Ideal)) (x4 x5 : (⟨S4096x64, .f32⟩ : BufTy).Contents (Elt Ideal))

/-- The product. -/
theorem product (r : Fin 16384) (q : Fin 9728) : val_main_v8 (F := Ideal) x0 x1 (ix2 r q) = ∑ k : Fin 4096, x0 (ix2 r k) * x1 (ix2 k q) := by
  pointwise [val_main_v6, val_main_v7, val_main_v8]

/-- The first half of a table, at one entry. -/
theorem half (x : (⟨S4096x64, .f32⟩ : BufTy).Contents (Elt Ideal)) (a : Fin 2048) (p : Fin 64) :
    val_main_v0 (F := Ideal) x (ix2 a p) = x (ix2 ⟨(a : ℕ), by omega⟩ p) := by
  pointwise [val_main_v0]

/-- The stacked cosine table. -/
theorem cosines (x : (⟨S4096x64, .f32⟩ : BufTy).Contents (Elt Ideal)) (r : Fin 16384) (p : Fin 64) :
    val_main_v1 (F := Ideal) x (ix2 r p) = x (ix2 (pos r) p) := by
  have hp : ∀ (q : Fin 4096), (q : ℕ) = (if (r : ℕ) < 8192 then (r : ℕ) % 4096 else (r : ℕ) % 2048) → q = pos r := fun q h => Fin.ext h
  have hf := half x
  unfold val_main_v1
  generalize val_main_v0 (F := Ideal) x = y at hf ⊢
  by_cases h0 : (r : ℕ) < 4096
  · refine (concatenate_apply_piece (t := S16384x64) 0 _ _ (ix2 r p) 0 (by show 0 < 6; omega) S4096x64 x rfl rfl 0 rfl (ix2 (⟨(r : ℕ) - 0, by omega⟩ : Fin 4096) p) (fun b hb => ?_) (by show 0 + ((r : ℕ) - 0) = (r : ℕ); omega)).trans ?_
    · match b, hb with
      | ⟨0, _⟩, hb => exact absurd rfl hb
      | ⟨1, _⟩, _ => rfl
    · have e := hp ⟨(r : ℕ) - 0, by omega⟩ (by show (r : ℕ) - 0 = _; rw [if_pos (show (r : ℕ) < 8192 by omega)]; omega)
      exact congrArg (fun q => x (ix2 q p)) e
  by_cases h1 : (r : ℕ) < 8192
  · refine (concatenate_apply_piece (t := S16384x64) 0 _ _ (ix2 r p) 1 (by show 1 < 6; omega) S4096x64 x rfl rfl 4096 rfl (ix2 (⟨(r : ℕ) - 4096, by omega⟩ : Fin 4096) p) (fun b hb => ?_) (by show 4096 + ((r : ℕ) - 4096) = (r : ℕ); omega)).trans ?_
    · match b, hb with
      | ⟨0, _⟩, hb => exact absurd rfl hb
      | ⟨1, _⟩, _ => rfl
    · have e := hp ⟨(r : ℕ) - 4096, by omega⟩ (by show (r : ℕ) - 4096 = _; rw [if_pos (show (r : ℕ) < 8192 by omega)]; omega)
      exact congrArg (fun q => x (ix2 q p)) e
  by_cases h2 : (r : ℕ) < 10240
  · refine (concatenate_apply_piece (t := S16384x64) 0 _ _ (ix2 r p) 2 (by show 2 < 6; omega) S2048x64 y rfl rfl 8192 rfl (ix2 (⟨(r : ℕ) - 8192, by omega⟩ : Fin 2048) p) (fun b hb => ?_) (by show 8192 + ((r : ℕ) - 8192) = (r : ℕ); omega)).trans ?_
    · match b, hb with
      | ⟨0, _⟩, hb => exact absurd rfl hb
      | ⟨1, _⟩, _ => rfl
    · have e := hp ⟨(r : ℕ) - 8192, by omega⟩ (by show (r : ℕ) - 8192 = _; rw [if_neg (show ¬ (r : ℕ) < 8192 by omega)]; omega)
      exact (hf _ _).trans (congrArg (fun q => x (ix2 q p)) e)
  by_cases h3 : (r : ℕ) < 12288
  · refine (concatenate_apply_piece (t := S16384x64) 0 _ _ (ix2 r p) 3 (by show 3 < 6; omega) S2048x64 y rfl rfl 10240 rfl (ix2 (⟨(r : ℕ) - 10240, by omega⟩ : Fin 2048) p) (fun b hb => ?_) (by show 10240 + ((r : ℕ) - 10240) = (r : ℕ); omega)).trans ?_
    · match b, hb with
      | ⟨0, _⟩, hb => exact absurd rfl hb
      | ⟨1, _⟩, _ => rfl
    · have e := hp ⟨(r : ℕ) - 10240, by omega⟩ (by show (r : ℕ) - 10240 = _; rw [if_neg (show ¬ (r : ℕ) < 8192 by omega)]; omega)
      exact (hf _ _).trans (congrArg (fun q => x (ix2 q p)) e)
  by_cases h4 : (r : ℕ) < 14336
  · refine (concatenate_apply_piece (t := S16384x64) 0 _ _ (ix2 r p) 4 (by show 4 < 6; omega) S2048x64 y rfl rfl 12288 rfl (ix2 (⟨(r : ℕ) - 12288, by omega⟩ : Fin 2048) p) (fun b hb => ?_) (by show 12288 + ((r : ℕ) - 12288) = (r : ℕ); omega)).trans ?_
    · match b, hb with
      | ⟨0, _⟩, hb => exact absurd rfl hb
      | ⟨1, _⟩, _ => rfl
    · have e := hp ⟨(r : ℕ) - 12288, by omega⟩ (by show (r : ℕ) - 12288 = _; rw [if_neg (show ¬ (r : ℕ) < 8192 by omega)]; omega)
      exact (hf _ _).trans (congrArg (fun q => x (ix2 q p)) e)
  refine (concatenate_apply_piece (t := S16384x64) 0 _ _ (ix2 r p) 5 (by show 5 < 6; omega) S2048x64 y rfl rfl 14336 rfl (ix2 (⟨(r : ℕ) - 14336, by omega⟩ : Fin 2048) p) (fun b hb => ?_) (by show 14336 + ((r : ℕ) - 14336) = (r : ℕ); omega)).trans ?_
  · match b, hb with
    | ⟨0, _⟩, hb => exact absurd rfl hb
    | ⟨1, _⟩, _ => rfl
  · have e := hp ⟨(r : ℕ) - 14336, by omega⟩ (by show (r : ℕ) - 14336 = _; rw [if_neg (show ¬ (r : ℕ) < 8192 by omega)]; omega)
    exact (hf _ _).trans (congrArg (fun q => x (ix2 q p)) e)

/-- The stacked sine table. -/
theorem sines (x : (⟨S4096x64, .f32⟩ : BufTy).Contents (Elt Ideal)) (r : Fin 16384) (p : Fin 64) :
    val_main_v4 (F := Ideal) x (ix2 r p) = x (ix2 (pos r) p) :=
  cosines x r p

/-- The mean square of a query head. -/
theorem q_squares (r : Fin 16384) (h : Fin 12) :
    val_main_v20 (F := Ideal) x0 x1 (ix2 r h) = ∑ e : Fin 128, val_main_v18 (F := Ideal) x0 x1 (ix3 r h e) * val_main_v18 (F := Ideal) x0 x1 (ix3 r h e) := by
  unfold val_main_v20 val_main_v19
  generalize val_main_v18 (F := Ideal) x0 x1 = X
  pointwise [val_main_cst]

/-- A query head after the norm. -/
theorem q_normed (r : Fin 16384) (h : Fin 12) (j : Fin 128) :
    val_main_v31 (F := Ideal) x0 x1 x2 (ix3 r h j)
      = normed (fun e => val_main_v8 (F := Ideal) x0 x1 (ix2 r ⟨(h : ℕ) * 128 + (e : ℕ), by omega⟩)) (fun e => x2 (ix2 0 e)) j := by
  have hx : ∀ e : Fin 128, val_main_v18 (F := Ideal) x0 x1 (ix3 r h e) = val_main_v8 (F := Ideal) x0 x1 (ix2 r ⟨(h : ℕ) * 128 + (e : ℕ), by omega⟩) := fun e => by
    unfold val_main_v18 val_main_v9
    generalize val_main_v8 (F := Ideal) x0 x1 = S
    pointwise
  have hs := q_squares x0 x1 r h
  simp only [hx] at hs
  have hj := hx j
  unfold val_main_v31 val_main_v30 val_main_v29 val_main_v28 val_main_v27 val_main_v26 val_main_v25 val_main_v24 val_main_v23 val_main_v22 val_main_v21 val_main_v17 val_main_v16
  unfold normed
  generalize val_main_v20 (F := Ideal) x0 x1 = S at hs ⊢
  generalize val_main_v18 (F := Ideal) x0 x1 = X at hj ⊢
  beta_reduce
  rw [← hs, ← hj]
  generalize val_main_v8 (F := Ideal) x0 x1 = P
  pointwise [val_main_cst_0, val_main_cst_1]

/-- A query head after the rotation. -/
theorem q_turned (r : Fin 16384) (c : Fin 1536) (h : Fin 12) (j : Fin 128) (hh : (h : ℕ) = (c : ℕ) / 128) (hj : (j : ℕ) = (c : ℕ) % 128) :
    val_main_v50 (F := Ideal) x0 x1 x2 x4 x5 (ix2 r c)
      = turned (fun e => val_main_v31 (F := Ideal) x0 x1 x2 (ix3 r h e)) (x4 (ix2 (pos r) ⟨(j : ℕ) / 2, by omega⟩)) (x5 (ix2 (pos r) ⟨(j : ℕ) / 2, by omega⟩)) j := by
  rw [← cosines x4 r, ← sines x5 r]
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v5 val_main_v2
  generalize val_main_v31 (F := Ideal) x0 x1 x2 = X
  generalize val_main_v1 (F := Ideal) x4 = C
  generalize val_main_v4 (F := Ideal) x5 = D
  unfold turned
  pointwise
  have e0 : (⟨(c : ℕ) / 128, by omega⟩ : Fin 12) = h := Fin.ext hh.symm
  have e1 : (⟨(c : ℕ) / 2 % 64, by omega⟩ : Fin 64) = ⟨(j : ℕ) / 2, by omega⟩ := Fin.ext (by show (c : ℕ) / 2 % 64 = (j : ℕ) / 2; omega)
  by_cases e : (c : ℕ) % 2 = 0
  · have e2 : (⟨(c : ℕ) / 2 % 64 * 2, by omega⟩ : Fin 128) = j := Fin.ext (by show (c : ℕ) / 2 % 64 * 2 = (j : ℕ); omega)
    have e3 : (⟨(c : ℕ) / 2 % 64 * 2 + 1, by omega⟩ : Fin 128) = ⟨(j : ℕ) + 1, by omega⟩ := Fin.ext (by show (c : ℕ) / 2 % 64 * 2 + 1 = (j : ℕ) + 1; omega)
    refine (dif_pos (show (c : ℕ) % 2 < 1 by omega)).trans (Eq.trans ?_ (dif_pos (show (j : ℕ) % 2 = 0 by omega)).symm)
    rw [e0, e1, e2, e3]
  · have e2 : (⟨(c : ℕ) / 2 % 64 * 2, by omega⟩ : Fin 128) = ⟨(j : ℕ) - 1, by omega⟩ := Fin.ext (by show (c : ℕ) / 2 % 64 * 2 = (j : ℕ) - 1; omega)
    have e3 : (⟨(c : ℕ) / 2 % 64 * 2 + 1, by omega⟩ : Fin 128) = j := Fin.ext (by show (c : ℕ) / 2 % 64 * 2 + 1 = (j : ℕ); omega)
    refine (dif_neg (show ¬ (c : ℕ) % 2 < 1 by omega)).trans (Eq.trans ?_ (dif_neg (show ¬ (j : ℕ) % 2 = 0 by omega)).symm)
    rw [e0, e1, e2, e3]

/-- The mean square of a key head. -/
theorem k_squares (r : Fin 16384) (h : Fin 4) :
    val_main_v61 (F := Ideal) x0 x1 (ix2 r h) = ∑ e : Fin 128, val_main_v59 (F := Ideal) x0 x1 (ix3 r h e) * val_main_v59 (F := Ideal) x0 x1 (ix3 r h e) := by
  unfold val_main_v61 val_main_v60
  generalize val_main_v59 (F := Ideal) x0 x1 = X
  pointwise [val_main_cst_5]

/-- A key head after the norm. -/
theorem k_normed (r : Fin 16384) (h : Fin 4) (j : Fin 128) :
    val_main_v72 (F := Ideal) x0 x1 x3 (ix3 r h j)
      = normed (fun e => val_main_v8 (F := Ideal) x0 x1 (ix2 r ⟨1536 + (h : ℕ) * 128 + (e : ℕ), by omega⟩)) (fun e => x3 (ix2 0 e)) j := by
  have hx : ∀ e : Fin 128, val_main_v59 (F := Ideal) x0 x1 (ix3 r h e) = val_main_v8 (F := Ideal) x0 x1 (ix2 r ⟨1536 + (h : ℕ) * 128 + (e : ℕ), by omega⟩) := fun e => by
    unfold val_main_v59 val_main_v10
    generalize val_main_v8 (F := Ideal) x0 x1 = S
    pointwise
    blk_ext
  have hs := k_squares x0 x1 r h
  simp only [hx] at hs
  have hj := hx j
  unfold val_main_v72 val_main_v71 val_main_v70 val_main_v69 val_main_v68 val_main_v67 val_main_v66 val_main_v65 val_main_v64 val_main_v63 val_main_v62 val_main_v58 val_main_v57
  unfold normed
  generalize val_main_v61 (F := Ideal) x0 x1 = S at hs ⊢
  generalize val_main_v59 (F := Ideal) x0 x1 = X at hj ⊢
  beta_reduce
  rw [← hs, ← hj]
  generalize val_main_v8 (F := Ideal) x0 x1 = P
  pointwise [val_main_cst_6, val_main_cst_7]

/-- A key head after the rotation. -/
theorem k_turned (r : Fin 16384) (c : Fin 512) (h : Fin 4) (j : Fin 128) (hh : (h : ℕ) = (c : ℕ) / 128) (hj : (j : ℕ) = (c : ℕ) % 128) :
    val_main_v91 (F := Ideal) x0 x1 x3 x4 x5 (ix2 r c)
      = turned (fun e => val_main_v72 (F := Ideal) x0 x1 x3 (ix3 r h e)) (x4 (ix2 (pos r) ⟨(j : ℕ) / 2, by omega⟩)) (x5 (ix2 (pos r) ⟨(j : ℕ) / 2, by omega⟩)) j := by
  rw [← cosines x4 r, ← sines x5 r]
  unfold val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v5 val_main_v2
  generalize val_main_v72 (F := Ideal) x0 x1 x3 = X
  generalize val_main_v1 (F := Ideal) x4 = C
  generalize val_main_v4 (F := Ideal) x5 = D
  unfold turned
  pointwise
  have e0 : (⟨(c : ℕ) / 128, by omega⟩ : Fin 4) = h := Fin.ext hh.symm
  have e1 : (⟨(c : ℕ) / 2 % 64, by omega⟩ : Fin 64) = ⟨(j : ℕ) / 2, by omega⟩ := Fin.ext (by show (c : ℕ) / 2 % 64 = (j : ℕ) / 2; omega)
  by_cases e : (c : ℕ) % 2 = 0
  · have e2 : (⟨(c : ℕ) / 2 % 64 * 2, by omega⟩ : Fin 128) = j := Fin.ext (by show (c : ℕ) / 2 % 64 * 2 = (j : ℕ); omega)
    have e3 : (⟨(c : ℕ) / 2 % 64 * 2 + 1, by omega⟩ : Fin 128) = ⟨(j : ℕ) + 1, by omega⟩ := Fin.ext (by show (c : ℕ) / 2 % 64 * 2 + 1 = (j : ℕ) + 1; omega)
    refine (dif_pos (show (c : ℕ) % 2 < 1 by omega)).trans (Eq.trans ?_ (dif_pos (show (j : ℕ) % 2 = 0 by omega)).symm)
    rw [e0, e1, e2, e3]
  · have e2 : (⟨(c : ℕ) / 2 % 64 * 2, by omega⟩ : Fin 128) = ⟨(j : ℕ) - 1, by omega⟩ := Fin.ext (by show (c : ℕ) / 2 % 64 * 2 = (j : ℕ) - 1; omega)
    have e3 : (⟨(c : ℕ) / 2 % 64 * 2 + 1, by omega⟩ : Fin 128) = j := Fin.ext (by show (c : ℕ) / 2 % 64 * 2 + 1 = (j : ℕ); omega)
    refine (dif_neg (show ¬ (c : ℕ) % 2 < 1 by omega)).trans (Eq.trans ?_ (dif_neg (show ¬ (j : ℕ) % 2 = 0 by omega)).symm)
    rw [e0, e1, e2, e3]

/-- The reference's result in the query columns. -/
theorem queries (r : Fin 16384) (c : Fin 2048) (h : Fin 12) (j : Fin 128) (hh : (h : ℕ) = (c : ℕ) / 128) (hj : (j : ℕ) = (c : ℕ) % 128) :
    val_main_v93 (F := Ideal) x0 x1 x2 x3 x4 x5 (ix2 r c)
      = turned (normed (fun e => ∑ k : Fin 4096, x0 (ix2 r k) * x1 (ix2 k ⟨(h : ℕ) * 128 + (e : ℕ), by omega⟩)) (fun e => x2 (ix2 0 e)))
          (x4 (ix2 (pos r) ⟨(j : ℕ) / 2, by omega⟩)) (x5 (ix2 (pos r) ⟨(j : ℕ) / 2, by omega⟩)) j
        * Ideal.div (Ideal.ofBits .f32 0x3F800000#32) (Ideal.log (Ideal.ofBits .f32 0x40000000#32) * Ideal.sqrt (Ideal.ofBits .f32 0x43000000#32)) := by
  have e := q_turned x0 x1 x2 x4 x5 r ⟨(c : ℕ), by omega⟩ h j hh hj
  simp only [q_normed, product] at e
  rw [← e]
  unfold val_main_v93 val_main_v92 val_main_v56 val_main_v55
  generalize val_main_v91 (F := Ideal) x0 x1 x3 x4 x5 = K
  generalize val_main_v50 (F := Ideal) x0 x1 x2 x4 x5 = Q
  pointwise [val_main_v54, val_main_v53, val_main_v52, val_main_v51, val_main_cst_2, val_main_cst_3, val_main_cst_4]
  exact dif_pos (by omega)

/-- The reference's result in the key columns. -/
theorem keys (r : Fin 16384) (c : Fin 2048) (h : Fin 4) (j : Fin 128) (hh : (h : ℕ) + 12 = (c : ℕ) / 128) (hj : (j : ℕ) = (c : ℕ) % 128) :
    val_main_v93 (F := Ideal) x0 x1 x2 x3 x4 x5 (ix2 r c)
      = turned (normed (fun e => ∑ k : Fin 4096, x0 (ix2 r k) * x1 (ix2 k ⟨1536 + (h : ℕ) * 128 + (e : ℕ), by omega⟩)) (fun e => x3 (ix2 0 e)))
          (x4 (ix2 (pos r) ⟨(j : ℕ) / 2, by omega⟩)) (x5 (ix2 (pos r) ⟨(j : ℕ) / 2, by omega⟩)) j := by
  have e := k_turned x0 x1 x3 x4 x5 r ⟨(c : ℕ) - 1536, by omega⟩ h j (by show (h : ℕ) = ((c : ℕ) - 1536) / 128; omega) (by show (j : ℕ) = ((c : ℕ) - 1536) % 128; omega)
  simp only [k_normed, product] at e
  rw [← e]
  unfold val_main_v93 val_main_v92
  generalize val_main_v91 (F := Ideal) x0 x1 x3 x4 x5 = K
  generalize val_main_v56 (F := Ideal) x0 x1 x2 x4 x5 = Q
  pointwise
  exact dif_neg (by omega)

end Cert.MixQkRow

end
-- ==== Proof.MixQkValue.lean ====
module

public import proofs.«01_k».proof.Proof.MixQkTile
public import proofs.«01_k».proof.Proof.MixQkEntry
public import proofs.«01_k».proof.Proof.MixQkRef

/-! The query and key projection's result array is the reference's. -/

@[expose] public section

set_option maxRecDepth 16384

noncomputable section

open Idealize.ShloMosaic Idealize.ShloMosaic.TcCoe Idealize.SL.Sem
open Idealize.ShloMosaic.Pipeline (Dat)

namespace Cert.MixQkIdeal.Final

open Cert.MixQkIdeal Cert.MixQkIdeal.Gen Cert.MixQkIdeal.Entry Cert.MixQkRow
open Cert.MixQkRefIdeal.Read

variable (m : (ℓ : Loc nD τ sig) → Buf (Elt Ideal) ℓ)

/-- The block of the position tables that a block of rows takes. -/
def posBlock (i : ℕ) : ℕ := if i < 8 then i % 4 else i % 2

/-- Every window's block index at each grid point. -/
theorem idx : ∀ t : Fin cfg0.N, win0_0.index t = ![t.val / 2, 0] ∧ win0_1.index t = ![0, 0, t.val % 2]
    ∧ win0_2.index t = ![0, t.val % 2, 0] ∧ win0_3.index t = ![t.val % 2, 0] ∧ win0_4.index t = ![posBlock (t.val / 2), 0]
    ∧ win0_5.index t = ![posBlock (t.val / 2), 0] ∧ win0_6.index t = ![posBlock (t.val / 2), 0]
    ∧ win0_7.index t = ![t.val / 2, t.val % 2] :=
  (by decide +kernel : ∀ t : Fin grid0.N, _)

/-- There are thirty-two grid points. -/
theorem lt_points (t : Fin cfg0.N) : t.val < 32 := lt_of_lt_of_eq t.isLt N_0

/-- The position tables have four blocks. -/
theorem posBlock_lt (i : ℕ) : posBlock i < 4 := by unfold posBlock; split <;> omega

/-- The activation block. -/
theorem readU (c : Dev nD) (t : Fin cfg0.N) (r : Fin 1024) (k : Fin 4096) :
    iblk m c 0 t (ix2 r k) = m ((c : Thread nD τ).loc main_arg0) (ix2 ⟨t.val / 2 * 1024 + r.val, by have := lt_points t; omega⟩ k) := by
  blk_simp [iblk, V, idx t]
  blk_ext [idx t]

/-- The weight block. -/
theorem readW (c : Dev nD) (t : Fin cfg0.N) (k : Fin 4096) (q : Fin 1024) :
    X0_1 m c t (ix3 0 k q) = m ((c : Thread nD τ).loc main_arg1) (ix2 k ⟨t.val % 2 * 1024 + q.val, by omega⟩) := by
  refine Eq.trans ?_ (entryW m c k ⟨t.val % 2 * 1024 + q.val, by omega⟩)
  unfold X0_1 Pipeline.Window.fill
  rw [dif_pos (moved0_1 t _)]
  blk_simp [iblk, idx t]
  blk_ext [idx t]

/-- The gains block. -/
theorem readG (c : Dev nD) (t : Fin cfg0.N) (h : Fin 8) (e : Fin 128) :
    iblk m c 2 t (ix3 0 h e) = if t.val % 2 * 8 + (h : ℕ) < 12 then m ((c : Thread nD τ).loc main_arg2) (ix2 0 e) else m ((c : Thread nD τ).loc main_arg3) (ix2 0 e) := by
  refine Eq.trans ?_ (entryG m c 0 ⟨t.val % 2 * 8 + h.val, by omega⟩ e)
  blk_simp [iblk, idx t]
  blk_ext [idx t]

/-- The factors block. -/
theorem readS (c : Dev nD) (t : Fin cfg0.N) (h : Fin 8) (e : Fin 128) :
    iblk m c 3 t (ix2 h e) = if t.val % 2 * 8 + (h : ℕ) < 12 then Ideal.div (Ideal.ofBits .f32 0x3F800000#32) (Ideal.log (Ideal.ofBits .f32 0x40000000#32) * Ideal.sqrt (Ideal.ofBits .f32 0x43000000#32))
      else Ideal.ofBits .f32 0x3F800000#32 := by
  refine Eq.trans ?_ (entryS m c ⟨t.val % 2 * 8 + h.val, by omega⟩ e)
  blk_simp [iblk, idx t]
  blk_ext [idx t]

/-- A row's position. -/
theorem pos_row (t : Fin cfg0.N) (r : Fin 1024) :
    (⟨posBlock (t.val / 2) * 1024 + r.val, by have := posBlock_lt (t.val / 2); omega⟩ : Fin 4096)
      = pos ⟨t.val / 2 * 1024 + r.val, by have := lt_points t; omega⟩ := by
  refine Fin.ext ?_
  show posBlock (t.val / 2) * 1024 + r.val = if t.val / 2 * 1024 + r.val < 8192 then (t.val / 2 * 1024 + r.val) % 4096 else (t.val / 2 * 1024 + r.val) % 2048
  have := r.isLt
  unfold posBlock
  by_cases h : t.val / 2 < 8
  · rw [if_pos h, if_pos (by omega)]; omega
  · rw [if_neg h, if_neg (by omega)]; omega

/-- The cosine block. -/
theorem readCos (c : Dev nD) (t : Fin cfg0.N) (r : Fin 1024) (j : Fin 128) :
    iblk m c 4 t (ix2 r j) = m ((c : Thread nD τ).loc main_arg4) (ix2 (pos ⟨t.val / 2 * 1024 + r.val, by have := lt_points t; omega⟩) ⟨(j : ℕ) / 2, by omega⟩) := by
  rw [← pos_row t r]
  refine Eq.trans ?_ (entryCos m c _ j)
  blk_simp [iblk, idx t]
  blk_ext [idx t]

/-- The block of the sine for the column after. -/
theorem readSa (c : Dev nD) (t : Fin cfg0.N) (r : Fin 1024) (j : Fin 128) :
    iblk m c 5 t (ix2 r j) = if (j : ℕ) % 2 = 0 then -(show EReal from m ((c : Thread nD τ).loc main_arg5) (ix2 (pos ⟨t.val / 2 * 1024 + r.val, by have := lt_points t; omega⟩) ⟨(j : ℕ) / 2, by omega⟩)) else 0 := by
  rw [← pos_row t r]
  refine Eq.trans ?_ (entrySa m c _ j)
  blk_simp [iblk, idx t]
  blk_ext [idx t]

/-- The block of the sine for the column before. -/
theorem readSb (c : Dev nD) (t : Fin cfg0.N) (r : Fin 1024) (j : Fin 128) :
    iblk m c 6 t (ix2 r j) = if (j : ℕ) % 2 = 0 then 0 else (show EReal from m ((c : Thread nD τ).loc main_arg5) (ix2 (pos ⟨t.val / 2 * 1024 + r.val, by have := lt_points t; omega⟩) ⟨(j : ℕ) / 2, by omega⟩)) := by
  rw [← pos_row t r]
  refine Eq.trans ?_ (entrySb m c _ j)
  blk_simp [iblk, idx t]
  blk_ext [idx t]

/-- The rotation by a signed sine for each neighbour, one of the two zero, is the rotation of the column pair. -/
theorem rotated_eq (x : Fin 128 → EReal) (co si : EReal) (j : Fin 128) :
    Tile.rotated x co (if (j : ℕ) % 2 = 0 then -si else 0) (if (j : ℕ) % 2 = 0 then 0 else si) j = turned x co si j := by
  unfold Tile.rotated turned
  by_cases e : (j : ℕ) % 2 = 0
  · have e1 : (⟨((j : ℕ) + 128 - 127) % 128, by omega⟩ : Fin 128) = ⟨(j : ℕ) + 1, by omega⟩ := Fin.ext (by show ((j : ℕ) + 128 - 127) % 128 = (j : ℕ) + 1; omega)
    rw [if_pos e, if_pos e, dif_pos e, e1, mul_zero, add_zero, mul_neg, sub_eq_add_neg]
  · have e1 : (⟨((j : ℕ) + 128 - 1) % 128, by omega⟩ : Fin 128) = ⟨(j : ℕ) - 1, by omega⟩ := Fin.ext (by show ((j : ℕ) + 128 - 1) % 128 = (j : ℕ) - 1; omega)
    rw [if_neg e, if_neg e, dif_neg e, e1, mul_zero, add_zero, add_comm]

/-- What a grid point stores at a block index is the reference's entry at the array index it sits at. -/
theorem point (c : Dev nD) (t : Fin cfg0.N) (r : Fin 1024) (h : Fin 8) (j : Fin 128) (R : Fin 16384) (C : Fin 2048)
    (hR : R = ⟨t.val / 2 * 1024 + r.val, by have := lt_points t; omega⟩) (hC : (C : ℕ) = t.val % 2 * 1024 + (h : ℕ) * 128 + (j : ℕ)) :
    Tile.cell (iblk m c 0 t) (X0_1 m c t) (iblk m c 2 t) (iblk m c 3 t) (iblk m c 4 t) (iblk m c 5 t) (iblk m c 6 t) r h j
    = val_main_v93 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R C) := by
  unfold Tile.cell
  rw [readCos, readSa, readSb, readS, rotated_eq, ← hR]
  simp only [readU, readW, readG, ← hR]
  by_cases hh : t.val % 2 * 8 + (h : ℕ) < 12
  · rw [queries _ _ _ _ _ _ R C ⟨t.val % 2 * 8 + (h : ℕ), hh⟩ j (by show t.val % 2 * 8 + (h : ℕ) = (C : ℕ) / 128; omega) (by omega)]
    simp only [if_pos hh]
    have e : ∀ e : Fin 128, (⟨t.val % 2 * 1024 + ((h : ℕ) * 128 + (e : ℕ)), by omega⟩ : Fin 9728) = ⟨(t.val % 2 * 8 + (h : ℕ)) * 128 + (e : ℕ), by omega⟩ :=
      fun e => Fin.ext (by show t.val % 2 * 1024 + ((h : ℕ) * 128 + (e : ℕ)) = (t.val % 2 * 8 + (h : ℕ)) * 128 + (e : ℕ); omega)
    simp only [e]
    rfl
  · rw [keys _ _ _ _ _ _ R C ⟨t.val % 2 * 8 + (h : ℕ) - 12, by omega⟩ j (by show t.val % 2 * 8 + (h : ℕ) - 12 + 12 = (C : ℕ) / 128; omega) (by omega)]
    simp only [if_neg hh]
    have e : ∀ e : Fin 128, (⟨t.val % 2 * 1024 + ((h : ℕ) * 128 + (e : ℕ)), by omega⟩ : Fin 9728) = ⟨1536 + (t.val % 2 * 8 + (h : ℕ) - 12) * 128 + (e : ℕ), by omega⟩ :=
      fun e => Fin.ext (by show t.val % 2 * 1024 + ((h : ℕ) * 128 + (e : ℕ)) = 1536 + (t.val % 2 * 8 + (h : ℕ) - 12) * 128 + (e : ℕ); omega)
    simp only [e]
    have one : Ideal.ofBits .f32 0x3F800000#32 = (1 : EReal) := by pointwise
    rw [one, mul_one]
    rfl

/-- The result array after the run is the reference's. -/
theorem final (c : Dev nD) : (dats m 0 c).arrAt 7 (cfgs 0).N
    = val_main_v93 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  unfold outsAt0
  have ht := lt_points t
  have b0 : (y 0 : ℕ) < 1024 := (y 0).isLt
  have b1 : (y 1 : ℕ) < 1024 := (y 1).isLt
  have hi : ((cfg0.win 7).blk t).view.emb y = (ix2 ⟨t.val / 2 * 1024 + (y 0 : ℕ), by omega⟩ ⟨t.val % 2 * 1024 + (y 1 : ℕ), by omega⟩ : S16384x2048.Idx) := by
    blk_ext [idx t]
  rw [hi]
  exact (Tile.block c _ _ _ _ _ _ _ _ _ _ _ _ _ _ _ _ _ _ _ _ _ _ _ _ y).trans
    (point m c t ⟨(y 0 : ℕ), b0⟩ ⟨(y 1 : ℕ) / 128, by omega⟩ ⟨(y 1 : ℕ) % 128, by omega⟩ _ _ rfl (by show t.val % 2 * 1024 + (y 1 : ℕ) = t.val % 2 * 1024 + (y 1 : ℕ) / 128 * 128 + (y 1 : ℕ) % 128; omega))

end Cert.MixQkIdeal.Final

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixNat
public import proofs.«01_k».proof.Proof.Gen.MixNat.Skeleton
public import proofs.«01_k».proof.Proof.Gen.MixNat.Launch
public import proofs.«01_k».proof.Proof.Gen.MixNat.Points
public import proofs.«01_k».proof.Proof.Gen.MixNat.Frame
public import proofs.«01_k».proof.Proof.Gen.MixNatIdeal
public import proofs.«01_k».proof.Proof.Gen.MixNatIdeal.Skeleton
public import proofs.«01_k».proof.Proof.Gen.MixNatIdeal.Launch
public import proofs.«01_k».proof.Proof.Gen.MixNatIdeal.Points
public import proofs.«01_k».proof.Proof.Gen.MixNatIdeal.Frame
public import proofs.«01_k».proof.Proof.Gen.MixNatIdeal.Value
public import proofs.«01_k».proof.Proof.Gen.MixNatRefIdeal
public import proofs.«01_k».proof.Proof.Gen.MixNatRefIdeal.Run
public import proofs.«01_k».proof.Proof.Gen.MixNatRefIdeal.Read
public import proofs.«01_k».proof.Proof.Gen.ResidLast
public import proofs.«01_k».proof.Proof.Gen.ResidLast.Skeleton
public import proofs.«01_k».proof.Proof.Gen.ResidLast.Launch
public import proofs.«01_k».proof.Proof.Gen.ResidLast.Points
public import proofs.«01_k».proof.Proof.Gen.ResidLast.Frame
public import proofs.«01_k».proof.Proof.Gen.ResidLastIdeal
public import proofs.«01_k».proof.Proof.Gen.ResidLastIdeal.Skeleton
public import proofs.«01_k».proof.Proof.Gen.ResidLastIdeal.Launch
public import proofs.«01_k».proof.Proof.Gen.ResidLastIdeal.Points
public import proofs.«01_k».proof.Proof.Gen.ResidLastIdeal.Frame
public import proofs.«01_k».proof.Proof.Gen.ResidLastRefIdeal
public import proofs.«01_k».proof.Proof.Gen.ResidLastRefIdeal.Run
public import proofs.«01_k».proof.Proof.Gen.ResidLastRefIdeal.Read
public import proofs.«01_k».proof.Proof.Gen.MixDil1
public import proofs.«01_k».proof.Proof.Gen.MixDil1.Skeleton
public import proofs.«01_k».proof.Proof.Gen.MixDil1.Launch
public import proofs.«01_k».proof.Proof.Gen.MixDil1.Points
public import proofs.«01_k».proof.Proof.Gen.MixDil1.Frame
public import proofs.«01_k».proof.Proof.Gen.MixDil1Ideal
public import proofs.«01_k».proof.Proof.Gen.MixDil1Ideal.Skeleton
public import proofs.«01_k».proof.Proof.Gen.MixDil1Ideal.Launch
public import proofs.«01_k».proof.Proof.Gen.MixDil1Ideal.Points
public import proofs.«01_k».proof.Proof.Gen.MixDil1Ideal.Frame
public import proofs.«01_k».proof.Proof.Gen.MixDil1Ideal.Value
public import proofs.«01_k».proof.Proof.Gen.MixDil1RefIdeal
public import proofs.«01_k».proof.Proof.Gen.MixDil1RefIdeal.Run
public import proofs.«01_k».proof.Proof.Gen.MixDil1RefIdeal.Read
public import proofs.«01_k».proof.Proof.Gen.MixQk
public import proofs.«01_k».proof.Proof.Gen.MixQk.Skeleton
public import proofs.«01_k».proof.Proof.Gen.MixQk.Launch
public import proofs.«01_k».proof.Proof.Gen.MixQk.Points
public import proofs.«01_k».proof.Proof.Gen.MixQk.Frame
public import proofs.«01_k».proof.Proof.Gen.MixQkIdeal
public import proofs.«01_k».proof.Proof.Gen.MixQkIdeal.Skeleton
public import proofs.«01_k».proof.Proof.Gen.MixQkIdeal.Launch
public import proofs.«01_k».proof.Proof.Gen.MixQkIdeal.Points
public import proofs.«01_k».proof.Proof.Gen.MixQkIdeal.Frame
public import proofs.«01_k».proof.Proof.Gen.MixQkIdeal.Value
public import proofs.«01_k».proof.Proof.Gen.MixQkRefIdeal
public import proofs.«01_k».proof.Proof.Gen.MixQkRefIdeal.Run
public import proofs.«01_k».proof.Proof.Gen.MixQkRefIdeal.Read
public import proofs.«01_k».proof.Proof.Gen.Pre_finite_qk
public import proofs.«01_k».proof.Proof.Gen.On_prompt_rows
public import proofs.«01_k».proof.Proof.ResidLastRun
public import proofs.«01_k».proof.Proof.AttnFacts
public import proofs.«01_k».proof.Proof.SwigluValue
public import proofs.«01_k».proof.Proof.FfnOutValue
public import proofs.«01_k».proof.Proof.MergeValue
public import proofs.«01_k».proof.Proof.MixOutValue
public import proofs.«01_k».proof.Proof.MixNatValue
public import proofs.«01_k».proof.Proof.ResidLastValue
public import proofs.«01_k».proof.Proof.MixDil1Value
public import proofs.«01_k».proof.Proof.MixQkValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Attn

/-- The attention reference runs, ends with its arguments unchanged and every counter at zero. -/
theorem frame_AttnRef : Cert.quiescent_AttnRefIdeal := by
  intro m ρ _
  exact (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The same under the attention's precondition. -/
theorem frame_AttnRef_pre : Cert.quiescent_AttnRefIdeal_pre_finite_qk :=
  fun m ρ _ => frame_AttnRef m ρ trivial

/-- From finite queries and keys the attention call and its reference end, over the extended reals, with the same
rows of the prompt. -/
theorem value_Attn : Cert.algebraic_AttnIdeal_AttnRefIdeal_on_prompt_rows_pre_finite_qk := by
  intro m g m' g' hpre hagree
  refine ⟨fun c => (Cert.AttnIdeal.Gen.dats m 0 c).arrAt 3 Cert.AttnIdeal.cfg0.N, ?_, ?_⟩
  · exact (θ_run Cert.AttnIdeal.defs _ _).mono
      (fun r h c => ⟨fun i hi => congrFun (h c).1 i, (h c).2⟩)
      (Cert.AttnIdeal.Value.run_blocks m g)
  · refine (θ_run Cert.AttnRefIdeal.defs _ _).mono
      (fun r h c => ⟨fun i hi => ?_, (h c).2⟩) (Cert.AttnRefIdeal.Value.run (F := Ideal) m' g')
    have hq := Cert.AttnIdeal.Facts.real_q _ _ _ (hpre c)
    have hk := Cert.AttnIdeal.Facts.real_k _ _ _ (hpre c)
    have hr := Cert.AttnIdeal.Facts.below _ _ _ i hi
    obtain ⟨a0, a1, a2⟩ := hagree c
    refine (congrFun (h c).1 i).trans ?_
    rw [Cert.AttnRefIdeal.Read.val_main_v51_eq, a0, a1, a2]
    exact ((congrFun (Cert.AttnIdeal.Final.final m c hq hk) i).trans (if_pos hr)).symm

/-- The Swiglu reference runs, ends with its arguments unchanged and every counter at zero. -/
theorem frame_SwigluRef : Cert.quiescent_SwigluRefIdeal := by
  intro m ρ _
  exact (θ_run Cert.SwigluRefIdeal.defs _ _).mono (fun r h => ⟨fun c => (h c).2.2,
      Idealize.ShloMosaic.sem_eq_zero_of_no_sems (by decide) r.2⟩)
    (Cert.SwigluRefIdeal.Value.run (F := Ideal) m ρ)

/-- Over the extended reals the Swiglu call and its reference end with the same results. -/
theorem value_Swiglu : Cert.algebraic_SwigluIdeal_SwigluRefIdeal := by
  pair_intro
  · run_from Cert.SwigluIdeal.Value.run_blocks m g
  · run_from Cert.SwigluRefIdeal.Value.run (F := Ideal) m' g'
    · exact (Cert.SwigluIdeal.Final.final m c).symm
    · exact (Cert.SwigluIdeal.Final.finalOut m c).symm

/-- The FfnOut reference runs, ends with its arguments unchanged and every counter at zero. -/
theorem frame_FfnOutRef : Cert.quiescent_FfnOutRefIdeal := by
  intro m ρ _
  exact (θ_run Cert.FfnOutRefIdeal.defs _ _).mono (fun r h => ⟨fun c => (h c).2.2.2,
      Idealize.ShloMosaic.sem_eq_zero_of_no_sems (by decide) r.2⟩)
    (Cert.FfnOutRefIdeal.Value.run (F := Ideal) m ρ)

/-- Over the extended reals the FfnOut call and its reference end with the same results. -/
theorem value_FfnOut : Cert.algebraic_FfnOutIdeal_FfnOutRefIdeal := by
  pair_intro
  · run_from Cert.FfnOutIdeal.Value.run_blocks m g
  · run_from Cert.FfnOutRefIdeal.Value.run (F := Ideal) m' g'
    · exact (Cert.FfnOutIdeal.Final.final m c).symm
    · exact (Cert.FfnOutIdeal.Final.finalGate m c).symm
    · exact (Cert.FfnOutIdeal.Final.finalMix m c).symm

/-- The Merge reference runs, ends with its arguments unchanged and every counter at zero. -/
theorem frame_MergeRef : Cert.quiescent_MergeRefIdeal := by
  intro m ρ _
  exact (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Over the extended reals the Merge call and its reference end with the same results. -/
theorem value_Merge : Cert.algebraic_MergeIdeal_MergeRefIdeal := by
  pair_intro
  · run_from Cert.MergeIdeal.Value.run_blocks m g
  · run_from Cert.MergeRefIdeal.Value.run (F := Ideal) m' g'
    · exact (Cert.MergeIdeal.Final.final m c).symm

/-- The MixOut reference runs, ends with its arguments unchanged and every counter at zero. -/
theorem frame_MixOutRef : Cert.quiescent_MixOutRefIdeal := by
  intro m ρ _
  exact (θ_run Cert.MixOutRefIdeal.defs _ _).mono (fun r h => ⟨fun c => (h c).2,
      Idealize.ShloMosaic.sem_eq_zero_of_no_sems (by decide) r.2⟩)
    (Cert.MixOutRefIdeal.Value.run (F := Ideal) m ρ)

/-- Over the extended reals the MixOut call and its reference end with the same results. -/
theorem value_MixOut : Cert.algebraic_MixOutIdeal_MixOutRefIdeal := by
  pair_intro
  · run_from Cert.MixOutIdeal.Value.run_blocks m g
  · run_from Cert.MixOutRefIdeal.Value.run (F := Ideal) m' g'
    · exact (Cert.MixOutIdeal.Final.final m c).symm

/-- The MixNat reference runs, ends with its arguments unchanged and every counter at zero. -/
theorem frame_MixNatRef : Cert.quiescent_MixNatRefIdeal := by
  intro m ρ _
  exact (θ_run Cert.MixNatRefIdeal.defs _ _).mono (fun r h => ⟨fun c => (h c).2,
      Idealize.ShloMosaic.sem_eq_zero_of_no_sems (by decide) r.2⟩)
    (Cert.MixNatRefIdeal.Value.run (F := Ideal) m ρ)

/-- Over the extended reals the MixNat call and its reference end with the same results. -/
theorem value_MixNat : Cert.algebraic_MixNatIdeal_MixNatRefIdeal := by
  pair_intro
  · run_from Cert.MixNatIdeal.Value.run_blocks m g
  · run_from Cert.MixNatRefIdeal.Value.run (F := Ideal) m' g'
    · exact (Cert.MixNatIdeal.Final.final m c).symm

/-- The ResidLast reference runs, ends with its arguments unchanged and every counter at zero. -/
theorem frame_ResidLastRef : Cert.quiescent_ResidLastRefIdeal := by
  intro m ρ _
  exact (θ_run Cert.ResidLastRefIdeal.defs _ _).mono (fun r h => ⟨fun c => (h c).2.2,
      Idealize.ShloMosaic.sem_eq_zero_of_no_sems (by decide) r.2⟩)
    (Cert.ResidLastRefIdeal.Value.run (F := Ideal) m ρ)

/-- Over the extended reals the ResidLast call and its reference end with the same results. -/
theorem value_ResidLast : Cert.algebraic_ResidLastIdeal_ResidLastRefIdeal := by
  pair_intro
  · run_from Cert.ResidLastIdeal.Run.run_results m g
  · run_from Cert.ResidLastRefIdeal.Value.run (F := Ideal) m' g'
    · exact (Cert.ResidLastIdeal.Final.finalPrompt m c).symm
    · exact (Cert.ResidLastIdeal.Final.finalSample m c).symm

/-- The MixDil1 reference runs, ends with its arguments unchanged and every counter at zero. -/
theorem frame_MixDil1Ref : Cert.quiescent_MixDil1RefIdeal := by
  intro m ρ _
  exact (θ_run Cert.MixDil1RefIdeal.defs _ _).mono (fun r h => ⟨fun c => (h c).2,
      Idealize.ShloMosaic.sem_eq_zero_of_no_sems (by decide) r.2⟩)
    (Cert.MixDil1RefIdeal.Value.run (F := Ideal) m ρ)

/-- Over the extended reals the MixDil1 call and its reference end with the same results. -/
theorem value_MixDil1 : Cert.algebraic_MixDil1Ideal_MixDil1RefIdeal := by
  pair_intro
  · run_from Cert.MixDil1Ideal.Value.run_blocks m g
  · run_from Cert.MixDil1RefIdeal.Value.run (F := Ideal) m' g'
    · exact (Cert.MixDil1Ideal.Final.final m c).symm

/-- The MixQk reference runs, ends with its arguments unchanged and every counter at zero. -/
theorem frame_MixQkRef : Cert.quiescent_MixQkRefIdeal := by
  intro m ρ _
  exact (θ_run Cert.MixQkRefIdeal.defs _ _).mono (fun r h => ⟨fun c => (h c).2,
      Idealize.ShloMosaic.sem_eq_zero_of_no_sems (by decide) r.2⟩)
    (Cert.MixQkRefIdeal.Value.run (F := Ideal) m ρ)

/-- Over the extended reals the MixQk call and its reference end with the same results. -/
theorem value_MixQk : Cert.algebraic_MixQkIdeal_MixQkRefIdeal := by
  pair_intro
  · run_from Cert.MixQkIdeal.Value.run_blocks m g
  · run_from Cert.MixQkRefIdeal.Value.run (F := Ideal) m' g'
    · obtain ⟨a0, a1, a2, a3, a4, a5⟩ := hagree c
      rw [Cert.MixQkRefIdeal.Read.val_main_v93_eq, a0, a1, a2, a3, a4, a5]
      exact (Cert.MixQkIdeal.Final.final m c).symm

/-- Everything that the certificate claims. -/
theorem claim : Cert.Claim := ⟨Cert.Attn.Gen.facts, Cert.AttnIdeal.Gen.facts, Cert.AttnRefIdeal.Gen.facts, Cert.Swiglu.Gen.facts, Cert.SwigluIdeal.Gen.facts, Cert.SwigluRefIdeal.Gen.facts, Cert.FfnOut.Gen.facts, Cert.FfnOutIdeal.Gen.facts, Cert.FfnOutRefIdeal.Gen.facts, Cert.Merge.Gen.facts, Cert.MergeIdeal.Gen.facts, Cert.MergeRefIdeal.Gen.facts, Cert.MixOut.Gen.facts, Cert.MixOutIdeal.Gen.facts, Cert.MixOutRefIdeal.Gen.facts, Cert.MixNat.Gen.facts, Cert.MixNatIdeal.Gen.facts, Cert.MixNatRefIdeal.Gen.facts, Cert.ResidLast.Gen.facts, Cert.ResidLastIdeal.Gen.facts, Cert.ResidLastRefIdeal.Gen.facts, Cert.MixDil1.Gen.facts, Cert.MixDil1Ideal.Gen.facts, Cert.MixDil1RefIdeal.Gen.facts, Cert.MixQk.Gen.facts, Cert.MixQkIdeal.Gen.facts, Cert.MixQkRefIdeal.Gen.facts, Cert.Pre_finite_qk.Gen.facts, Cert.On_prompt_rows.Gen.facts,
  fun m ρ _ => Cert.Attn.Gen.frame m ρ,
  fun m ρ _ => Cert.AttnIdeal.Gen.frame m ρ,
  fun m ρ _ => Cert.AttnIdeal.Gen.frame m ρ,
  frame_AttnRef,
  frame_AttnRef_pre,
  fun m ρ _ => Cert.Swiglu.Gen.frame m ρ,
  fun m ρ _ => Cert.SwigluIdeal.Gen.frame m ρ,
  frame_SwigluRef,
  fun m ρ _ => Cert.FfnOut.Gen.frame m ρ,
  fun m ρ _ => Cert.FfnOutIdeal.Gen.frame m ρ,
  frame_FfnOutRef,
  fun m ρ _ => Cert.Merge.Gen.frame m ρ,
  fun m ρ _ => Cert.MergeIdeal.Gen.frame m ρ,
  frame_MergeRef,
  fun m ρ _ => Cert.MixOut.Gen.frame m ρ,
  fun m ρ _ => Cert.MixOutIdeal.Gen.frame m ρ,
  frame_MixOutRef,
  fun m ρ _ => Cert.MixNat.Gen.frame m ρ,
  fun m ρ _ => Cert.MixNatIdeal.Gen.frame m ρ,
  frame_MixNatRef,
  fun m ρ _ => Cert.ResidLast.Run.frame m ρ,
  fun m ρ _ => Cert.ResidLastIdeal.Run.frame m ρ,
  frame_ResidLastRef,
  fun m ρ _ => Cert.MixDil1.Gen.frame m ρ,
  fun m ρ _ => Cert.MixDil1Ideal.Gen.frame m ρ,
  frame_MixDil1Ref,
  fun m ρ _ => Cert.MixQk.Gen.frame m ρ,
  fun m ρ _ => Cert.MixQkIdeal.Gen.frame m ρ,
  frame_MixQkRef,
  trivial,
  value_Attn,
  trivial,
  value_Swiglu,
  trivial,
  value_FfnOut,
  trivial,
  value_Merge,
  trivial,
  value_MixOut,
  trivial,
  value_MixNat,
  trivial,
  value_ResidLast,
  trivial,
  value_MixDil1,
  trivial,
  value_MixQk⟩

end Cert.Proof

end
